-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 24576]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![24576, 1536]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S8x48x1536 : Shape := ⟨3, ![8, 48, 1536]⟩
abbrev S8 : Shape := ⟨1, ![8]⟩
abbrev S_ : Shape := ⟨0, ![]⟩
abbrev S48x1536 : Shape := ⟨2, ![48, 1536]⟩
abbrev S1x48x1536 : Shape := ⟨3, ![1, 48, 1536]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .f32⟩
  | .local _ .vmem, ⟨0, _⟩ => ⟨S1536x768, .bf16⟩
  | .local _ .vmem, ⟨1, _⟩ => ⟨S768x1536, .bf16⟩
  | .local _ .vmem, ⟨2, _⟩ => ⟨S1536x1536, .f32⟩
  | .local _ .vmem, ⟨3, _⟩ => ⟨S8x48x1536, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 3 → Bool
  | ⟨0, _⟩ => true
  | ⟨1, _⟩ => false
  | ⟨2, _⟩ => true
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 3 19 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c48_i32 : BitVec 32 := 48#32
  let v36 : BitVec 32 := Scalar.muli v2 c48_i32
  let v37 : Index := Scalar.indexCast v36
  let c0_24 : Index := 0#32
  ![v37.toNat, 0]
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32 : BitVec 32 := 1#32
  let v44 : BitVec 32 := Scalar.muli v24 c1_i32_32
  let v45 : BitVec 32 := Scalar.addi c0_i32_33 v44
  v45.toNat
def k0_off2 (d0 : Dev nD) (c0_i32_48 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v62 : BitVec 32 := Scalar.subi v2 c0_i32_48
  let c1_i32_49 : BitVec 32 := 1#32
  let v63 : BitVec 32 := Scalar.subi v62 c1_i32_49
  let c32_i32_50 : BitVec 32 := 32#32
  let c0_i32_51 : BitVec 32 := 0#32
  let v64 : BitVec 1 := Scalar.cmpi .eq c32_i32_50 c0_i32_51
  let c1_i32_52 : BitVec 32 := 1#32
  let v65 : BitVec 32 := Scalar.select v64 c1_i32_52 c32_i32_50
  let v66 : BitVec 32 := Scalar.remsi v63 v65
  let c0_i32_54 : BitVec 32 := 0#32
  let v68 : BitVec 1 := Scalar.cmpi .slt v66 c0_i32_54
  let c0_i32_55 : BitVec 32 := 0#32
  let v69 : BitVec 1 := Scalar.cmpi .slt v65 c0_i32_55
  let v70 : BitVec 1 := Scalar.xori v68 v69
  let c0_i32_53 : BitVec 32 := 0#32
  let v67 : BitVec 1 := Scalar.cmpi .ne v66 c0_i32_53
  let v71 : BitVec 1 := Scalar.andi v70 v67
  let v72 : BitVec 32 := Scalar.addi v66 v65
  let v73 : BitVec 32 := Scalar.select v71 v72 v66
  let c48_i32_58 : BitVec 32 := 48#32
  let v77 : BitVec 32 := Scalar.muli v73 c48_i32_58
  let v78 : Index := Scalar.indexCast v77
  let c0_59 : Index := 0#32
  ![v78.toNat, 0]
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_67 : BitVec 32 := 1#32
  let v86 : BitVec 32 := Scalar.muli v24 c1_i32_67
  let v87 : BitVec 32 := Scalar.addi c0_i32_68 v86
  v87.toNat
def k0_dev5 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_108 : BitVec 32 := 1#32
  let v134 : BitVec 32 := Scalar.muli v13 c1_i32_108
  let v135 : BitVec 32 := Scalar.addi c0_i32_109 v134
  v135.toNat
def k0_dev6 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_113 : BitVec 32 := 1#32
  let v136 : BitVec 32 := Scalar.muli v24 c1_i32_113
  let v137 : BitVec 32 := Scalar.addi c0_i32_114 v136
  v137.toNat
def k0_dev7 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_154 : BitVec 32 := 1#32
  let v184 : BitVec 32 := Scalar.muli v13 c1_i32_154
  let v185 : BitVec 32 := Scalar.addi c0_i32_155 v184
  v185.toNat
def k0_dev8 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_159 : BitVec 32 := 1#32
  let v186 : BitVec 32 := Scalar.muli v24 c1_i32_159
  let v187 : BitVec 32 := Scalar.addi c0_i32_160 v186
  v187.toNat
def k0_dev9 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_200 : BitVec 32 := 1#32
  let v234 : BitVec 32 := Scalar.muli v13 c1_i32_200
  let v235 : BitVec 32 := Scalar.addi c0_i32_201 v234
  v235.toNat
def k0_dev10 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_205 : BitVec 32 := 1#32
  let v236 : BitVec 32 := Scalar.muli v24 c1_i32_205
  let v237 : BitVec 32 := Scalar.addi c0_i32_206 v236
  v237.toNat
def k0_dev11 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_246 : BitVec 32 := 1#32
  let v284 : BitVec 32 := Scalar.muli v13 c1_i32_246
  let v285 : BitVec 32 := Scalar.addi c0_i32_247 v284
  v285.toNat
def k0_dev12 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_251 : BitVec 32 := 1#32
  let v286 : BitVec 32 := Scalar.muli v24 c1_i32_251
  let v287 : BitVec 32 := Scalar.addi c0_i32_252 v286
  v287.toNat
def k0_dev13 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_292 : BitVec 32 := 1#32
  let v334 : BitVec 32 := Scalar.muli v13 c1_i32_292
  let v335 : BitVec 32 := Scalar.addi c0_i32_293 v334
  v335.toNat
def k0_dev14 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_297 : BitVec 32 := 1#32
  let v336 : BitVec 32 := Scalar.muli v24 c1_i32_297
  let v337 : BitVec 32 := Scalar.addi c0_i32_298 v336
  v337.toNat
def k0_dev15 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_340 : BitVec 32 := 1#32
  let v384 : BitVec 32 := Scalar.muli v13 c1_i32_340
  let v385 : BitVec 32 := Scalar.addi c0_i32_341 v384
  v385.toNat
def k0_dev16 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_346 : BitVec 32 := 1#32
  let v386 : BitVec 32 := Scalar.muli v24 c1_i32_346
  let v387 : BitVec 32 := Scalar.addi c0_i32_347 v386
  v387.toNat
def k0_dev17 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_390 : BitVec 32 := 1#32
  let v434 : BitVec 32 := Scalar.muli v13 c1_i32_390
  let v435 : BitVec 32 := Scalar.addi c0_i32_391 v434
  v435.toNat
def k0_dev18 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_396 : BitVec 32 := 1#32
  let v436 : BitVec 32 := Scalar.muli v24 c1_i32_396
  let v437 : BitVec 32 := Scalar.addi c0_i32_397 v436
  v437.toNat
def k0_dev19 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_439 : BitVec 32 := 1#32
  let v484 : BitVec 32 := Scalar.muli v13 c1_i32_439
  let v485 : BitVec 32 := Scalar.addi c0_i32_440 v484
  v485.toNat
def k0_dev20 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_445 : BitVec 32 := 1#32
  let v486 : BitVec 32 := Scalar.muli v24 c1_i32_445
  let v487 : BitVec 32 := Scalar.addi c0_i32_446 v486
  v487.toNat
def k0_dev21 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_488 : BitVec 32 := 1#32
  let v534 : BitVec 32 := Scalar.muli v13 c1_i32_488
  let v535 : BitVec 32 := Scalar.addi c0_i32_489 v534
  v535.toNat
def k0_dev22 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_494 : BitVec 32 := 1#32
  let v536 : BitVec 32 := Scalar.muli v24 c1_i32_494
  let v537 : BitVec 32 := Scalar.addi c0_i32_495 v536
  v537.toNat
def k0_dev23 (d0 : Dev nD) : Nat :=
  let c0_i32_538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_537 : BitVec 32 := 1#32
  let v584 : BitVec 32 := Scalar.muli v13 c1_i32_537
  let v585 : BitVec 32 := Scalar.addi c0_i32_538 v584
  v585.toNat
def k0_dev24 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_543 : BitVec 32 := 1#32
  let v586 : BitVec 32 := Scalar.muli v24 c1_i32_543
  let v587 : BitVec 32 := Scalar.addi c0_i32_544 v586
  v587.toNat
def k0_dev25 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_586 : BitVec 32 := 1#32
  let v634 : BitVec 32 := Scalar.muli v13 c1_i32_586
  let v635 : BitVec 32 := Scalar.addi c0_i32_587 v634
  v635.toNat
def k0_dev26 (d0 : Dev nD) : Nat :=
  let c0_i32_593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_592 : BitVec 32 := 1#32
  let v636 : BitVec 32 := Scalar.muli v24 c1_i32_592
  let v637 : BitVec 32 := Scalar.addi c0_i32_593 v636
  v637.toNat
def k0_dev27 (d0 : Dev nD) : Nat :=
  let c0_i32_636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_635 : BitVec 32 := 1#32
  let v684 : BitVec 32 := Scalar.muli v13 c1_i32_635
  let v685 : BitVec 32 := Scalar.addi c0_i32_636 v684
  v685.toNat
def k0_dev28 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_641 : BitVec 32 := 1#32
  let v686 : BitVec 32 := Scalar.muli v24 c1_i32_641
  let v687 : BitVec 32 := Scalar.addi c0_i32_642 v686
  v687.toNat
def k0_dev29 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_684 : BitVec 32 := 1#32
  let v734 : BitVec 32 := Scalar.muli v13 c1_i32_684
  let v735 : BitVec 32 := Scalar.addi c0_i32_685 v734
  v735.toNat
def k0_dev30 (d0 : Dev nD) : Nat :=
  let c0_i32_691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_690 : BitVec 32 := 1#32
  let v736 : BitVec 32 := Scalar.muli v24 c1_i32_690
  let v737 : BitVec 32 := Scalar.addi c0_i32_691 v736
  v737.toNat
def k0_dev31 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_733 : BitVec 32 := 1#32
  let v784 : BitVec 32 := Scalar.muli v13 c1_i32_733
  let v785 : BitVec 32 := Scalar.addi c0_i32_734 v784
  v785.toNat
def k0_dev32 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_739 : BitVec 32 := 1#32
  let v786 : BitVec 32 := Scalar.muli v24 c1_i32_739
  let v787 : BitVec 32 := Scalar.addi c0_i32_740 v786
  v787.toNat
def k0_dev33 (d0 : Dev nD) : Nat :=
  let c0_i32_783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_782 : BitVec 32 := 1#32
  let v834 : BitVec 32 := Scalar.muli v13 c1_i32_782
  let v835 : BitVec 32 := Scalar.addi c0_i32_783 v834
  v835.toNat
def k0_dev34 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_788 : BitVec 32 := 1#32
  let v836 : BitVec 32 := Scalar.muli v24 c1_i32_788
  let v837 : BitVec 32 := Scalar.addi c0_i32_789 v836
  v837.toNat
def k0_dev35 (d0 : Dev nD) : Nat :=
  let c0_i32_832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_831 : BitVec 32 := 1#32
  let v884 : BitVec 32 := Scalar.muli v13 c1_i32_831
  let v885 : BitVec 32 := Scalar.addi c0_i32_832 v884
  v885.toNat
def k0_dev36 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_837 : BitVec 32 := 1#32
  let v886 : BitVec 32 := Scalar.muli v24 c1_i32_837
  let v887 : BitVec 32 := Scalar.addi c0_i32_838 v886
  v887.toNat
def k0_dev37 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_880 : BitVec 32 := 1#32
  let v934 : BitVec 32 := Scalar.muli v13 c1_i32_880
  let v935 : BitVec 32 := Scalar.addi c0_i32_881 v934
  v935.toNat
def k0_dev38 (d0 : Dev nD) : Nat :=
  let c0_i32_887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_886 : BitVec 32 := 1#32
  let v936 : BitVec 32 := Scalar.muli v24 c1_i32_886
  let v937 : BitVec 32 := Scalar.addi c0_i32_887 v936
  v937.toNat
def k0_dev39 (d0 : Dev nD) : Nat :=
  let c0_i32_930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_929 : BitVec 32 := 1#32
  let v984 : BitVec 32 := Scalar.muli v13 c1_i32_929
  let v985 : BitVec 32 := Scalar.addi c0_i32_930 v984
  v985.toNat
def k0_dev40 (d0 : Dev nD) : Nat :=
  let c0_i32_936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_935 : BitVec 32 := 1#32
  let v986 : BitVec 32 := Scalar.muli v24 c1_i32_935
  let v987 : BitVec 32 := Scalar.addi c0_i32_936 v986
  v987.toNat
def k0_dev41 (d0 : Dev nD) : Nat :=
  let c0_i32_979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_978 : BitVec 32 := 1#32
  let v1034 : BitVec 32 := Scalar.muli v13 c1_i32_978
  let v1035 : BitVec 32 := Scalar.addi c0_i32_979 v1034
  v1035.toNat
def k0_dev42 (d0 : Dev nD) : Nat :=
  let c0_i32_985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_984 : BitVec 32 := 1#32
  let v1036 : BitVec 32 := Scalar.muli v24 c1_i32_984
  let v1037 : BitVec 32 := Scalar.addi c0_i32_985 v1036
  v1037.toNat
def k0_dev43 (d0 : Dev nD) : Nat :=
  let c0_i32_1028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1027 : BitVec 32 := 1#32
  let v1084 : BitVec 32 := Scalar.muli v13 c1_i32_1027
  let v1085 : BitVec 32 := Scalar.addi c0_i32_1028 v1084
  v1085.toNat
def k0_dev44 (d0 : Dev nD) : Nat :=
  let c0_i32_1034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1033 : BitVec 32 := 1#32
  let v1086 : BitVec 32 := Scalar.muli v24 c1_i32_1033
  let v1087 : BitVec 32 := Scalar.addi c0_i32_1034 v1086
  v1087.toNat
def k0_dev45 (d0 : Dev nD) : Nat :=
  let c0_i32_1077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1076 : BitVec 32 := 1#32
  let v1134 : BitVec 32 := Scalar.muli v13 c1_i32_1076
  let v1135 : BitVec 32 := Scalar.addi c0_i32_1077 v1134
  v1135.toNat
def k0_dev46 (d0 : Dev nD) : Nat :=
  let c0_i32_1083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1082 : BitVec 32 := 1#32
  let v1136 : BitVec 32 := Scalar.muli v24 c1_i32_1082
  let v1137 : BitVec 32 := Scalar.addi c0_i32_1083 v1136
  v1137.toNat
def k0_dev47 (d0 : Dev nD) : Nat :=
  let c0_i32_1126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1125 : BitVec 32 := 1#32
  let v1184 : BitVec 32 := Scalar.muli v13 c1_i32_1125
  let v1185 : BitVec 32 := Scalar.addi c0_i32_1126 v1184
  v1185.toNat
def k0_dev48 (d0 : Dev nD) : Nat :=
  let c0_i32_1132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1131 : BitVec 32 := 1#32
  let v1186 : BitVec 32 := Scalar.muli v24 c1_i32_1131
  let v1187 : BitVec 32 := Scalar.addi c0_i32_1132 v1186
  v1187.toNat
def k0_dev49 (d0 : Dev nD) : Nat :=
  let c0_i32_1175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1174 : BitVec 32 := 1#32
  let v1234 : BitVec 32 := Scalar.muli v13 c1_i32_1174
  let v1235 : BitVec 32 := Scalar.addi c0_i32_1175 v1234
  v1235.toNat
def k0_dev50 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1180 : BitVec 32 := 1#32
  let v1236 : BitVec 32 := Scalar.muli v24 c1_i32_1180
  let v1237 : BitVec 32 := Scalar.addi c0_i32_1181 v1236
  v1237.toNat
def k0_dev51 (d0 : Dev nD) : Nat :=
  let c0_i32_1224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1223 : BitVec 32 := 1#32
  let v1284 : BitVec 32 := Scalar.muli v13 c1_i32_1223
  let v1285 : BitVec 32 := Scalar.addi c0_i32_1224 v1284
  v1285.toNat
def k0_dev52 (d0 : Dev nD) : Nat :=
  let c0_i32_1230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1229 : BitVec 32 := 1#32
  let v1286 : BitVec 32 := Scalar.muli v24 c1_i32_1229
  let v1287 : BitVec 32 := Scalar.addi c0_i32_1230 v1286
  v1287.toNat
def k0_dev53 (d0 : Dev nD) : Nat :=
  let c0_i32_1273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1272 : BitVec 32 := 1#32
  let v1334 : BitVec 32 := Scalar.muli v13 c1_i32_1272
  let v1335 : BitVec 32 := Scalar.addi c0_i32_1273 v1334
  v1335.toNat
def k0_dev54 (d0 : Dev nD) : Nat :=
  let c0_i32_1279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1278 : BitVec 32 := 1#32
  let v1336 : BitVec 32 := Scalar.muli v24 c1_i32_1278
  let v1337 : BitVec 32 := Scalar.addi c0_i32_1279 v1336
  v1337.toNat
def k0_dev55 (d0 : Dev nD) : Nat :=
  let c0_i32_1322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1321 : BitVec 32 := 1#32
  let v1384 : BitVec 32 := Scalar.muli v13 c1_i32_1321
  let v1385 : BitVec 32 := Scalar.addi c0_i32_1322 v1384
  v1385.toNat
def k0_dev56 (d0 : Dev nD) : Nat :=
  let c0_i32_1328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1327 : BitVec 32 := 1#32
  let v1386 : BitVec 32 := Scalar.muli v24 c1_i32_1327
  let v1387 : BitVec 32 := Scalar.addi c0_i32_1328 v1386
  v1387.toNat
def k0_dev57 (d0 : Dev nD) : Nat :=
  let c0_i32_1371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1370 : BitVec 32 := 1#32
  let v1434 : BitVec 32 := Scalar.muli v13 c1_i32_1370
  let v1435 : BitVec 32 := Scalar.addi c0_i32_1371 v1434
  v1435.toNat
def k0_dev58 (d0 : Dev nD) : Nat :=
  let c0_i32_1377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1376 : BitVec 32 := 1#32
  let v1436 : BitVec 32 := Scalar.muli v24 c1_i32_1376
  let v1437 : BitVec 32 := Scalar.addi c0_i32_1377 v1436
  v1437.toNat
def k0_dev59 (d0 : Dev nD) : Nat :=
  let c0_i32_1420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1419 : BitVec 32 := 1#32
  let v1484 : BitVec 32 := Scalar.muli v13 c1_i32_1419
  let v1485 : BitVec 32 := Scalar.addi c0_i32_1420 v1484
  v1485.toNat
def k0_dev60 (d0 : Dev nD) : Nat :=
  let c0_i32_1426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1425 : BitVec 32 := 1#32
  let v1486 : BitVec 32 := Scalar.muli v24 c1_i32_1425
  let v1487 : BitVec 32 := Scalar.addi c0_i32_1426 v1486
  v1487.toNat
def k0_dev61 (d0 : Dev nD) : Nat :=
  let c0_i32_1469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1468 : BitVec 32 := 1#32
  let v1534 : BitVec 32 := Scalar.muli v13 c1_i32_1468
  let v1535 : BitVec 32 := Scalar.addi c0_i32_1469 v1534
  v1535.toNat
def k0_dev62 (d0 : Dev nD) : Nat :=
  let c0_i32_1475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1474 : BitVec 32 := 1#32
  let v1536 : BitVec 32 := Scalar.muli v24 c1_i32_1474
  let v1537 : BitVec 32 := Scalar.addi c0_i32_1475 v1536
  v1537.toNat
def k0_dev63 (d0 : Dev nD) : Nat :=
  let c0_i32_1520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1519 : BitVec 32 := 1#32
  let v1587 : BitVec 32 := Scalar.muli v13 c1_i32_1519
  let v1588 : BitVec 32 := Scalar.addi c0_i32_1520 v1587
  v1588.toNat
def k0_dev64 (d0 : Dev nD) : Nat :=
  let c0_i32_1526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1525 : BitVec 32 := 1#32
  let v1589 : BitVec 32 := Scalar.muli v24 c1_i32_1525
  let v1590 : BitVec 32 := Scalar.addi c0_i32_1526 v1589
  v1590.toNat
def k0_off3 (d0 : Dev nD) (c0_i32_1541 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1607 : BitVec 32 := Scalar.subi v2 c0_i32_1541
  let c32_i32_1542 : BitVec 32 := 32#32
  let c0_i32_1543 : BitVec 32 := 0#32
  let v1608 : BitVec 1 := Scalar.cmpi .eq c32_i32_1542 c0_i32_1543
  let c1_i32_1544 : BitVec 32 := 1#32
  let v1609 : BitVec 32 := Scalar.select v1608 c1_i32_1544 c32_i32_1542
  let v1610 : BitVec 32 := Scalar.remsi v1607 v1609
  let c0_i32_1546 : BitVec 32 := 0#32
  let v1612 : BitVec 1 := Scalar.cmpi .slt v1610 c0_i32_1546
  let c0_i32_1547 : BitVec 32 := 0#32
  let v1613 : BitVec 1 := Scalar.cmpi .slt v1609 c0_i32_1547
  let v1614 : BitVec 1 := Scalar.xori v1612 v1613
  let c0_i32_1545 : BitVec 32 := 0#32
  let v1611 : BitVec 1 := Scalar.cmpi .ne v1610 c0_i32_1545
  let v1615 : BitVec 1 := Scalar.andi v1614 v1611
  let v1616 : BitVec 32 := Scalar.addi v1610 v1609
  let v1617 : BitVec 32 := Scalar.select v1615 v1616 v1610
  let c48_i32_1551 : BitVec 32 := 48#32
  let v1621 : BitVec 32 := Scalar.muli v1617 c48_i32_1551
  let v1622 : Index := Scalar.indexCast v1621
  let c0_1552 : Index := 0#32
  ![v1622.toNat, 0]
def k0_dev65 (d0 : Dev nD) : Nat :=
  let c0_i32_1566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1565 : BitVec 32 := 1#32
  let v1630 : BitVec 32 := Scalar.muli v13 c1_i32_1565
  let v1631 : BitVec 32 := Scalar.addi c0_i32_1566 v1630
  v1631.toNat
def k0_dev66 (d0 : Dev nD) : Nat :=
  let c0_i32_1572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1571 : BitVec 32 := 1#32
  let v1632 : BitVec 32 := Scalar.muli v24 c1_i32_1571
  let v1633 : BitVec 32 := Scalar.addi c0_i32_1572 v1632
  v1633.toNat
def k0_dev67 (d0 : Dev nD) : Nat :=
  let c0_i32_1612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1611 : BitVec 32 := 1#32
  let v1673 : BitVec 32 := Scalar.muli v13 c1_i32_1611
  let v1674 : BitVec 32 := Scalar.addi c0_i32_1612 v1673
  v1674.toNat
def k0_dev68 (d0 : Dev nD) : Nat :=
  let c0_i32_1618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1617 : BitVec 32 := 1#32
  let v1675 : BitVec 32 := Scalar.muli v24 c1_i32_1617
  let v1676 : BitVec 32 := Scalar.addi c0_i32_1618 v1675
  v1676.toNat
def k0_dev69 (d0 : Dev nD) : Nat :=
  let c0_i32_1658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1657 : BitVec 32 := 1#32
  let v1716 : BitVec 32 := Scalar.muli v13 c1_i32_1657
  let v1717 : BitVec 32 := Scalar.addi c0_i32_1658 v1716
  v1717.toNat
def k0_dev70 (d0 : Dev nD) : Nat :=
  let c0_i32_1664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1663 : BitVec 32 := 1#32
  let v1718 : BitVec 32 := Scalar.muli v24 c1_i32_1663
  let v1719 : BitVec 32 := Scalar.addi c0_i32_1664 v1718
  v1719.toNat
def k0_dev71 (d0 : Dev nD) : Nat :=
  let c0_i32_1704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1703 : BitVec 32 := 1#32
  let v1759 : BitVec 32 := Scalar.muli v13 c1_i32_1703
  let v1760 : BitVec 32 := Scalar.addi c0_i32_1704 v1759
  v1760.toNat
def k0_dev72 (d0 : Dev nD) : Nat :=
  let c0_i32_1710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1709 : BitVec 32 := 1#32
  let v1761 : BitVec 32 := Scalar.muli v24 c1_i32_1709
  let v1762 : BitVec 32 := Scalar.addi c0_i32_1710 v1761
  v1762.toNat
def k0_dev73 (d0 : Dev nD) : Nat :=
  let c0_i32_1750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1749 : BitVec 32 := 1#32
  let v1802 : BitVec 32 := Scalar.muli v13 c1_i32_1749
  let v1803 : BitVec 32 := Scalar.addi c0_i32_1750 v1802
  v1803.toNat
def k0_dev74 (d0 : Dev nD) : Nat :=
  let c0_i32_1756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1755 : BitVec 32 := 1#32
  let v1804 : BitVec 32 := Scalar.muli v24 c1_i32_1755
  let v1805 : BitVec 32 := Scalar.addi c0_i32_1756 v1804
  v1805.toNat
def k0_dev75 (d0 : Dev nD) : Nat :=
  let c0_i32_1796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1795 : BitVec 32 := 1#32
  let v1845 : BitVec 32 := Scalar.muli v13 c1_i32_1795
  let v1846 : BitVec 32 := Scalar.addi c0_i32_1796 v1845
  v1846.toNat
def k0_dev76 (d0 : Dev nD) : Nat :=
  let c0_i32_1802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1801 : BitVec 32 := 1#32
  let v1847 : BitVec 32 := Scalar.muli v24 c1_i32_1801
  let v1848 : BitVec 32 := Scalar.addi c0_i32_1802 v1847
  v1848.toNat
def k0_dev77 (d0 : Dev nD) : Nat :=
  let c0_i32_1842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1841 : BitVec 32 := 1#32
  let v1888 : BitVec 32 := Scalar.muli v13 c1_i32_1841
  let v1889 : BitVec 32 := Scalar.addi c0_i32_1842 v1888
  v1889.toNat
def k0_dev78 (d0 : Dev nD) : Nat :=
  let c0_i32_1848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1847 : BitVec 32 := 1#32
  let v1890 : BitVec 32 := Scalar.muli v24 c1_i32_1847
  let v1891 : BitVec 32 := Scalar.addi c0_i32_1848 v1890
  v1891.toNat
def k0_dev79 (d0 : Dev nD) : Nat :=
  let c0_i32_1888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1887 : BitVec 32 := 1#32
  let v1931 : BitVec 32 := Scalar.muli v13 c1_i32_1887
  let v1932 : BitVec 32 := Scalar.addi c0_i32_1888 v1931
  v1932.toNat
def k0_dev80 (d0 : Dev nD) : Nat :=
  let c0_i32_1894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1893 : BitVec 32 := 1#32
  let v1933 : BitVec 32 := Scalar.muli v24 c1_i32_1893
  let v1934 : BitVec 32 := Scalar.addi c0_i32_1894 v1933
  v1934.toNat
def k0_dev81 (d0 : Dev nD) : Nat :=
  let c0_i32_1934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1933 : BitVec 32 := 1#32
  let v1974 : BitVec 32 := Scalar.muli v13 c1_i32_1933
  let v1975 : BitVec 32 := Scalar.addi c0_i32_1934 v1974
  v1975.toNat
def k0_dev82 (d0 : Dev nD) : Nat :=
  let c0_i32_1940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1939 : BitVec 32 := 1#32
  let v1976 : BitVec 32 := Scalar.muli v24 c1_i32_1939
  let v1977 : BitVec 32 := Scalar.addi c0_i32_1940 v1976
  v1977.toNat
def k0_dev83 (d0 : Dev nD) : Nat :=
  let c0_i32_1980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1979 : BitVec 32 := 1#32
  let v2017 : BitVec 32 := Scalar.muli v13 c1_i32_1979
  let v2018 : BitVec 32 := Scalar.addi c0_i32_1980 v2017
  v2018.toNat
def k0_dev84 (d0 : Dev nD) : Nat :=
  let c0_i32_1986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1985 : BitVec 32 := 1#32
  let v2019 : BitVec 32 := Scalar.muli v24 c1_i32_1985
  let v2020 : BitVec 32 := Scalar.addi c0_i32_1986 v2019
  v2020.toNat
def k0_dev85 (d0 : Dev nD) : Nat :=
  let c0_i32_2026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2025 : BitVec 32 := 1#32
  let v2060 : BitVec 32 := Scalar.muli v13 c1_i32_2025
  let v2061 : BitVec 32 := Scalar.addi c0_i32_2026 v2060
  v2061.toNat
def k0_dev86 (d0 : Dev nD) : Nat :=
  let c0_i32_2032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2031 : BitVec 32 := 1#32
  let v2062 : BitVec 32 := Scalar.muli v24 c1_i32_2031
  let v2063 : BitVec 32 := Scalar.addi c0_i32_2032 v2062
  v2063.toNat
def k0_dev87 (d0 : Dev nD) : Nat :=
  let c0_i32_2072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2071 : BitVec 32 := 1#32
  let v2103 : BitVec 32 := Scalar.muli v13 c1_i32_2071
  let v2104 : BitVec 32 := Scalar.addi c0_i32_2072 v2103
  v2104.toNat
def k0_dev88 (d0 : Dev nD) : Nat :=
  let c0_i32_2078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2077 : BitVec 32 := 1#32
  let v2105 : BitVec 32 := Scalar.muli v24 c1_i32_2077
  let v2106 : BitVec 32 := Scalar.addi c0_i32_2078 v2105
  v2106.toNat
def k0_dev89 (d0 : Dev nD) : Nat :=
  let c0_i32_2118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2117 : BitVec 32 := 1#32
  let v2146 : BitVec 32 := Scalar.muli v13 c1_i32_2117
  let v2147 : BitVec 32 := Scalar.addi c0_i32_2118 v2146
  v2147.toNat
def k0_dev90 (d0 : Dev nD) : Nat :=
  let c0_i32_2124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2123 : BitVec 32 := 1#32
  let v2148 : BitVec 32 := Scalar.muli v24 c1_i32_2123
  let v2149 : BitVec 32 := Scalar.addi c0_i32_2124 v2148
  v2149.toNat
def k0_dev91 (d0 : Dev nD) : Nat :=
  let c0_i32_2164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2163 : BitVec 32 := 1#32
  let v2189 : BitVec 32 := Scalar.muli v13 c1_i32_2163
  let v2190 : BitVec 32 := Scalar.addi c0_i32_2164 v2189
  v2190.toNat
def k0_dev92 (d0 : Dev nD) : Nat :=
  let c0_i32_2170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2169 : BitVec 32 := 1#32
  let v2191 : BitVec 32 := Scalar.muli v24 c1_i32_2169
  let v2192 : BitVec 32 := Scalar.addi c0_i32_2170 v2191
  v2192.toNat
def k0_dev93 (d0 : Dev nD) : Nat :=
  let c0_i32_2210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2209 : BitVec 32 := 1#32
  let v2232 : BitVec 32 := Scalar.muli v13 c1_i32_2209
  let v2233 : BitVec 32 := Scalar.addi c0_i32_2210 v2232
  v2233.toNat
def k0_dev94 (d0 : Dev nD) : Nat :=
  let c0_i32_2216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2215 : BitVec 32 := 1#32
  let v2234 : BitVec 32 := Scalar.muli v24 c1_i32_2215
  let v2235 : BitVec 32 := Scalar.addi c0_i32_2216 v2234
  v2235.toNat
def k0_dev95 (d0 : Dev nD) : Nat :=
  let c0_i32_2256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2255 : BitVec 32 := 1#32
  let v2275 : BitVec 32 := Scalar.muli v13 c1_i32_2255
  let v2276 : BitVec 32 := Scalar.addi c0_i32_2256 v2275
  v2276.toNat
def k0_dev96 (d0 : Dev nD) : Nat :=
  let c0_i32_2262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2261 : BitVec 32 := 1#32
  let v2277 : BitVec 32 := Scalar.muli v24 c1_i32_2261
  let v2278 : BitVec 32 := Scalar.addi c0_i32_2262 v2277
  v2278.toNat
def k0_dev97 (d0 : Dev nD) : Nat :=
  let c0_i32_2302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2301 : BitVec 32 := 1#32
  let v2318 : BitVec 32 := Scalar.muli v13 c1_i32_2301
  let v2319 : BitVec 32 := Scalar.addi c0_i32_2302 v2318
  v2319.toNat
def k0_dev98 (d0 : Dev nD) : Nat :=
  let c0_i32_2308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2307 : BitVec 32 := 1#32
  let v2320 : BitVec 32 := Scalar.muli v24 c1_i32_2307
  let v2321 : BitVec 32 := Scalar.addi c0_i32_2308 v2320
  v2321.toNat
def k0_dev99 (d0 : Dev nD) : Nat :=
  let c0_i32_2348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2347 : BitVec 32 := 1#32
  let v2361 : BitVec 32 := Scalar.muli v13 c1_i32_2347
  let v2362 : BitVec 32 := Scalar.addi c0_i32_2348 v2361
  v2362.toNat
def k0_dev100 (d0 : Dev nD) : Nat :=
  let c0_i32_2354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2353 : BitVec 32 := 1#32
  let v2363 : BitVec 32 := Scalar.muli v24 c1_i32_2353
  let v2364 : BitVec 32 := Scalar.addi c0_i32_2354 v2363
  v2364.toNat
def k0_dev101 (d0 : Dev nD) : Nat :=
  let c0_i32_2394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2393 : BitVec 32 := 1#32
  let v2404 : BitVec 32 := Scalar.muli v13 c1_i32_2393
  let v2405 : BitVec 32 := Scalar.addi c0_i32_2394 v2404
  v2405.toNat
def k0_dev102 (d0 : Dev nD) : Nat :=
  let c0_i32_2400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2399 : BitVec 32 := 1#32
  let v2406 : BitVec 32 := Scalar.muli v24 c1_i32_2399
  let v2407 : BitVec 32 := Scalar.addi c0_i32_2400 v2406
  v2407.toNat
def k0_dev103 (d0 : Dev nD) : Nat :=
  let c0_i32_2440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2439 : BitVec 32 := 1#32
  let v2447 : BitVec 32 := Scalar.muli v13 c1_i32_2439
  let v2448 : BitVec 32 := Scalar.addi c0_i32_2440 v2447
  v2448.toNat
def k0_dev104 (d0 : Dev nD) : Nat :=
  let c0_i32_2446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2445 : BitVec 32 := 1#32
  let v2449 : BitVec 32 := Scalar.muli v24 c1_i32_2445
  let v2450 : BitVec 32 := Scalar.addi c0_i32_2446 v2449
  v2450.toNat
def k0_dev105 (d0 : Dev nD) : Nat :=
  let c0_i32_2486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2485 : BitVec 32 := 1#32
  let v2490 : BitVec 32 := Scalar.muli v13 c1_i32_2485
  let v2491 : BitVec 32 := Scalar.addi c0_i32_2486 v2490
  v2491.toNat
def k0_dev106 (d0 : Dev nD) : Nat :=
  let c0_i32_2492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2491 : BitVec 32 := 1#32
  let v2492 : BitVec 32 := Scalar.muli v24 c1_i32_2491
  let v2493 : BitVec 32 := Scalar.addi c0_i32_2492 v2492
  v2493.toNat
def k0_dev107 (d0 : Dev nD) : Nat :=
  let c0_i32_2532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2531 : BitVec 32 := 1#32
  let v2533 : BitVec 32 := Scalar.muli v13 c1_i32_2531
  let v2534 : BitVec 32 := Scalar.addi c0_i32_2532 v2533
  v2534.toNat
def k0_dev108 (d0 : Dev nD) : Nat :=
  let c0_i32_2538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2537 : BitVec 32 := 1#32
  let v2535 : BitVec 32 := Scalar.muli v24 c1_i32_2537
  let v2536 : BitVec 32 := Scalar.addi c0_i32_2538 v2535
  v2536.toNat
def k0_dev109 (d0 : Dev nD) : Nat :=
  let c0_i32_2578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2577 : BitVec 32 := 1#32
  let v2576 : BitVec 32 := Scalar.muli v13 c1_i32_2577
  let v2577 : BitVec 32 := Scalar.addi c0_i32_2578 v2576
  v2577.toNat
def k0_dev110 (d0 : Dev nD) : Nat :=
  let c0_i32_2584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2583 : BitVec 32 := 1#32
  let v2578 : BitVec 32 := Scalar.muli v24 c1_i32_2583
  let v2579 : BitVec 32 := Scalar.addi c0_i32_2584 v2578
  v2579.toNat
def k0_dev111 (d0 : Dev nD) : Nat :=
  let c0_i32_2624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2623 : BitVec 32 := 1#32
  let v2619 : BitVec 32 := Scalar.muli v13 c1_i32_2623
  let v2620 : BitVec 32 := Scalar.addi c0_i32_2624 v2619
  v2620.toNat
def k0_dev112 (d0 : Dev nD) : Nat :=
  let c0_i32_2630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2629 : BitVec 32 := 1#32
  let v2621 : BitVec 32 := Scalar.muli v24 c1_i32_2629
  let v2622 : BitVec 32 := Scalar.addi c0_i32_2630 v2621
  v2622.toNat
def k0_dev113 (d0 : Dev nD) : Nat :=
  let c0_i32_2670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2669 : BitVec 32 := 1#32
  let v2662 : BitVec 32 := Scalar.muli v13 c1_i32_2669
  let v2663 : BitVec 32 := Scalar.addi c0_i32_2670 v2662
  v2663.toNat
def k0_dev114 (d0 : Dev nD) : Nat :=
  let c0_i32_2676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2675 : BitVec 32 := 1#32
  let v2664 : BitVec 32 := Scalar.muli v24 c1_i32_2675
  let v2665 : BitVec 32 := Scalar.addi c0_i32_2676 v2664
  v2665.toNat
def k0_dev115 (d0 : Dev nD) : Nat :=
  let c0_i32_2719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2718 : BitVec 32 := 1#32
  let v2705 : BitVec 32 := Scalar.muli v24 c1_i32_2718
  let v2706 : BitVec 32 := Scalar.addi c0_i32_2719 v2705
  v2706.toNat
def k0_dev116 (d0 : Dev nD) : Nat :=
  let c0_i32_2762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2761 : BitVec 32 := 1#32
  let v2746 : BitVec 32 := Scalar.muli v24 c1_i32_2761
  let v2747 : BitVec 32 := Scalar.addi c0_i32_2762 v2746
  v2747.toNat
def k0_dev117 (d0 : Dev nD) : Nat :=
  let c0_i32_2805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2804 : BitVec 32 := 1#32
  let v2787 : BitVec 32 := Scalar.muli v24 c1_i32_2804
  let v2788 : BitVec 32 := Scalar.addi c0_i32_2805 v2787
  v2788.toNat
def k0_dev118 (d0 : Dev nD) : Nat :=
  let c0_i32_2848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2847 : BitVec 32 := 1#32
  let v2828 : BitVec 32 := Scalar.muli v24 c1_i32_2847
  let v2829 : BitVec 32 := Scalar.addi c0_i32_2848 v2828
  v2829.toNat
def k0_dev119 (d0 : Dev nD) : Nat :=
  let c0_i32_2891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2890 : BitVec 32 := 1#32
  let v2869 : BitVec 32 := Scalar.muli v24 c1_i32_2890
  let v2870 : BitVec 32 := Scalar.addi c0_i32_2891 v2869
  v2870.toNat
def k0_dev120 (d0 : Dev nD) : Nat :=
  let c0_i32_2938_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2937_r0 : BitVec 32 := 1#32
  let v2917_r0 : BitVec 32 := Scalar.muli v13 c1_i32_2937_r0
  let v2918_r0 : BitVec 32 := Scalar.addi c0_i32_2938_r0 v2917_r0
  v2918_r0.toNat
def k0_dev121 (d0 : Dev nD) : Nat :=
  let c0_i32_2941_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2940_r0 : BitVec 32 := 1#32
  let v2919_r0 : BitVec 32 := Scalar.muli v24 c1_i32_2940_r0
  let v2920_r0 : BitVec 32 := Scalar.addi c0_i32_2941_r0 v2919_r0
  v2920_r0.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x24576 : Shape := ⟨2, ![1536, 24576]⟩
abbrev S24576x1536 : Shape := ⟨2, ![24576, 1536]⟩
abbrev S1536x1536 : Shape := ⟨2, ![1536, 1536]⟩

abbrev nBuf : Space → Nat
  | .hbm => 5
  | .vmem => 0
  | .smem => 0
  | _ => 0

abbrev bufTy : (tb : Table) → Fin (tcTables nBuf tb) → BufTy
  | .hbm, ⟨0, _⟩ => ⟨S1536x24576, .bf16⟩
  | .hbm, ⟨1, _⟩ => ⟨S24576x1536, .bf16⟩
  | .hbm, ⟨2, _⟩ => ⟨S1536x24576, .f32⟩
  | .hbm, ⟨3, _⟩ => ⟨S24576x1536, .f32⟩
  | .hbm, ⟨4, _⟩ => ⟨S1536x1536, .f32⟩
  | _, _ => ⟨S1536x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Flat.lean ====
/-
  The kernel body as ONE program by hops. The printed body is 104 windows of 60 statements, cut by count; the same
  operations, in the same order, are here a prologue (entry barrier, local product, first slot), 62 hops that differ by
  their number alone, and an epilogue (the last two send waits, exit barrier). `body_eq` says the two are one program,
  so that the proof steps through one hop at a symbolic number.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.RingProof

open Cert.KernelIdeal Cert.KernelIdeal.Gen
open Idealize.ShloMosaic Idealize.ShloMosaic.TcCoe Idealize.SL.Sem

variable {F : FTy → Type} [FloatOps F]

/-! ## Buffers, slots and semaphores -/

/-- The staging buffers of the two operands and of the result, and the 8-slot communication buffer, whole. -/
abbrev aM : Memref sig .tc .vmem S1536x768 .bf16 := Memref.whole cc0_stg0_0
abbrev bM : Memref sig .tc .vmem S768x1536 .bf16 := Memref.whole cc0_stg1_0
abbrev oM : Memref sig .tc .vmem S1536x1536 .f32 := Memref.whole cc0_stg2_0
abbrev cM : Memref sig .tc .vmem S8x48x1536 .bf16 := Memref.whole cc0_scratch0

/-- The slot a number names: the ring of 8 slots is walked modulo 8. -/
abbrev sl (h : ℕ) : Fin 8 := ⟨h % 8, Nat.mod_lt _ (by decide)⟩

theorem slot_inb (s : Fin 8) : ∀ a, (![s.val, 0, 0] : Fin 3 → Nat) a + S1x48x1536.size a ≤ S8x48x1536.size a := by
  revert s; decide
theorem sem_inb (s : Fin 8) : ∀ a, (![s.val] : Fin 1 → Nat) a + S1.size a ≤ S8.size a := by
  revert s; decide

/-- Slot `s` of the communication buffer, as a rectangle of it, -/
abbrev slotR (s : Fin 8) : Rect S8x48x1536 := Rect.unit (s := S8x48x1536) ![s.val, 0, 0] S1x48x1536.size (slot_inb s)
/-- and as the 48 × 1536 view the transfers move. -/
abbrev slotM (s : Fin 8) : Memref sig .tc .vmem S48x1536 .bf16 :=
  (cM.slice (slotR s) (fun _ => rfl)).squeeze S48x1536 squeezes_S1x48x1536_S48x1536

theorem slot_words (s : Fin 8) : (slotR s).WholeWords (EltTy.packing .bf16) := by revert s; decide
theorem slot_packed (s : Fin 8) : (slotR s).PackedRows (EltTy.packing .bf16) := by revert s; decide

theorem slot_exact (s : Fin 8) : (slotM s).view.WordExact :=
  ((Memref.isWhole_whole cc0_scratch0).wordExact_slice rfl _ (slot_words s)).reshape _ _

/-- The send and receive semaphores of slot `s`; the credit, barrier and exit semaphores. -/
abbrev sendS (s : Fin 8) : DmaSem sig := ((cc0_scratch1.slice (Rect.unit (s := S8) ![s.val] S1.size (sem_inb s))).squeeze S_ squeezes_S1_S_).sem
abbrev recvS (s : Fin 8) : DmaSem sig := ((cc0_scratch2.slice (Rect.unit (s := S8) ![s.val] S1.size (sem_inb s))).squeeze S_ squeezes_S1_S_).sem
abbrev credS : Sem sig := (cc0_scratch3 : Sems sig S_).sem
abbrev barS : Sem sig := (SemArray.scalar (sig.barrier 0 rfl) : Sems sig S_).sem
abbrev exitS : Sem sig := (cc0_scoped0 : Sems sig S_).sem

/-- The neighbours as the kernel computes them. -/
abbrev leftD (d : Dev nD) : Dev nD := ⟨k0_dev1 d, k0_dev1_lt d⟩
abbrev rightD (d : Dev nD) : Dev nD := ⟨k0_dev2 d, k0_dev2_lt d⟩

/-! ## The operations of a hop -/

/-- Wait until the copy of hop `j` has been read out of its slot. -/
abbrev waitSend (j : ℕ) : Prog (TpuEff nD τ sig (Elt F) Λ₀ .tc) PUnit :=
  Prog.lift (.waitDma2 (sendS (sl j)) (slotM (sl (j + 1))) (slotM (sl j)) (slot_exact _) (slot_exact _))
/-- Start the copy of hop `h` into the right neighbour's next slot. -/
abbrev startCopy (d : Dev nD) (h : ℕ) : Prog (TpuEff nD τ sig (Elt F) Λ₀ .tc) PUnit :=
  Prog.lift (.enqueueDma (slotM (sl h)) (.remote (Dev.tc (rightD d)) (slotM (sl (h + 1))) (.dma (sendS (sl h)))) (.dma (recvS (sl (h + 1))))
    (slot_exact _) (slot_exact _) ⟨⟨rfl, Or.inl rfl⟩, trivial⟩)
/-- Wait for the left neighbour's copy of hop `h`. -/
abbrev waitRecv (h : ℕ) : Prog (TpuEff nD τ sig (Elt F) Λ₀ .tc) PUnit :=
  Prog.lift (.waitDma2 (recvS (sl (h + 1))) (slotM (sl h)) (slotM (sl (h + 1))) (slot_exact _) (slot_exact _))

abbrev loadSlot (s : Fin 8) : Prog (TpuEff nD τ sig (Elt F) Λ₀ .tc) (Vec F S1x48x1536 .bf16) :=
  Prog.lift (.load cM (slotR s).toLoadRect (View.loadsAt_vmem h_S1x48x1536))
abbrev storeSlot (s : Fin 8) (v : FVec F S1x48x1536 .bf16) : Prog (TpuEff nD τ sig (Elt F) Λ₀ .tc) PUnit :=
  Prog.lift (.store cM (slotR s) v Finset.univ
    (View.stores_vmem h_S1x48x1536 ((Memref.isWhole_whole cc0_scratch0).storeExact_slice rfl _ (slot_packed s)) (fun _ => rfl)) (.inl rfl))

/-- Read 48 rows of the result, and write them. -/
abbrev loadRows (off : Fin 2 → Nat) (inb : ∀ a, off a + S48x1536.size a ≤ S1536x1536.size a) :
    Prog (TpuEff nD τ sig (Elt F) Λ₀ .tc) (Vec F S48x1536 .f32) :=
  Prog.lift (.load oM (Rect.unit (s := S1536x1536) off S48x1536.size inb).toLoadRect (View.loadsAt_vmem h_S48x1536))
abbrev storeRows (off : Fin 2 → Nat) (inb : ∀ a, off a + S48x1536.size a ≤ S1536x1536.size a) (v : FVec F S48x1536 .f32) :
    Prog (TpuEff nD τ sig (Elt F) Λ₀ .tc) PUnit :=
  Prog.lift (.store oM (Rect.unit (s := S1536x1536) off S48x1536.size inb) v Finset.univ (View.stores_vmem_bits_univ h_S48x1536 rfl) (.inl rfl))

/-- A row block number, of the 31 the two phases walk. -/
abbrev r31 (h : ℕ) : Fin 31 := ⟨h % 31, Nat.mod_lt _ (by decide)⟩

/-- Before hop `h` starts its copy: from hop 7 on it takes a credit; -/
def takeCredit (h : ℕ) : Prog (TpuEff nD τ sig (Elt F) Λ₀ .tc) PUnit :=
  if 7 ≤ h then semWaitWord credS 1#32 else pure ⟨⟩
/-- from hop 2 on it waits for the copy of hop `h - 2` to have left its slot -/
def freeSlot (h : ℕ) : Prog (TpuEff nD τ sig (Elt F) Λ₀ .tc) PUnit :=
  if 2 ≤ h then waitSend (h - 2) else pure ⟨⟩
/-- and, while a later copy will need that slot, credits the left neighbour. -/
def giveCredit (d : Dev nD) (h : ℕ) : Prog (TpuEff nD τ sig (Elt F) Λ₀ .tc) PUnit :=
  if 2 ≤ h ∧ h ≤ 56 then semSignalWord (leftD d) credS 1#32 else pure ⟨⟩

/-- The communication of hop `h`. -/
def comm (d : Dev nD) (h : ℕ) : Prog (TpuEff nD τ sig (Elt F) Λ₀ .tc) PUnit := do
  takeCredit h
  freeSlot h
  giveCredit d h
  startCopy d h
  waitRecv h

/-- The last hop of the first phase also writes the sum to the result. -/
def lastRows (d : Dev nD) (h : ℕ) (v : Vec F S1x48x1536 .bf16) (x : Vec F S48x1536 .f32) : Prog (TpuEff nD τ sig (Elt F) Λ₀ .tc) PUnit :=
  if h = 30 then do
    let _ ← loadRows (F := F) (k0_off2 d (BitVec.ofNat 32 (r31 h).val)) (k0_off2_inb d (r31 h))
    storeRows (k0_off2 d (BitVec.ofNat 32 (r31 h).val)) (k0_off2_inb d (r31 h)) (k0_pay4 v x)
  else pure ⟨⟩

/-- Hop `h` of the first phase: after its copies, it adds the device's own rows to what arrived, in the slot. -/
def redHop (d : Dev nD) (h : ℕ) : Prog (TpuEff nD τ sig (Elt F) Λ₀ .tc) PUnit := do
  comm d h
  let v ← loadSlot (sl (h + 1))
  let x ← loadRows (k0_off2 d (BitVec.ofNat 32 (r31 h).val)) (k0_off2_inb d (r31 h))
  let _ ← loadSlot (F := F) (sl (h + 1))
  storeSlot (sl (h + 1)) (k0_pay3 v x)
  lastRows d h v x

/-- Hop `31 + t` of the second phase: after its copies, it writes what arrived to the result. -/
def gatHop (d : Dev nD) (t : ℕ) : Prog (TpuEff nD τ sig (Elt F) Λ₀ .tc) PUnit := do
  comm d (31 + t)
  let v ← loadSlot (sl (31 + t + 1))
  let _ ← loadRows (F := F) (k0_off3 d (BitVec.ofNat 32 (r31 t).val)) (k0_off3_inb d (r31 t))
  storeRows (k0_off3 d (BitVec.ofNat 32 (r31 t).val)) (k0_off3_inb d (r31 t)) (k0_pay43 v)

/-- Hops `h, h + 1, …, h + n - 1`. -/
def redHops (d : Dev nD) (h : ℕ) : ℕ → Prog (TpuEff nD τ sig (Elt F) Λ₀ .tc) PUnit
  | 0 => pure ⟨⟩
  | n + 1 => do redHop d h; redHops d (h + 1) n
def gatHops (d : Dev nD) (t : ℕ) : ℕ → Prog (TpuEff nD τ sig (Elt F) Λ₀ .tc) PUnit
  | 0 => pure ⟨⟩
  | n + 1 => do gatHop d t; gatHops d (t + 1) n

/-- The entry barrier, the local product, the device's own rows into slot 0. -/
def prologue (d : Dev nD) : Prog (TpuEff nD τ sig (Elt F) Λ₀ .tc) PUnit := do
  semSignalWord (leftD d) barS 1#32
  semSignalWord (rightD d) barS 1#32
  semWaitWord barS 2#32
  let va ← Prog.lift (.load aM (Rect.unit (s := S1536x768) ![0, 0] S1536x768.size inb_S1536x768_S1536x768_0_0).toLoadRect (View.loadsAt_vmem h_S1536x768))
  let vb ← Prog.lift (.load bM (Rect.unit (s := S768x1536) ![0, 0] S768x1536.size inb_S768x1536_S768x1536_0_0).toLoadRect (View.loadsAt_vmem h_S768x1536))
  let _ ← Prog.lift (.load oM (Rect.unit (s := S1536x1536) ![0, 0] S1536x1536.size inb_S1536x1536_S1536x1536_0_0).toLoadRect (View.loadsAt_vmem h_S1536x1536))
  Prog.lift (.store oM (Rect.unit (s := S1536x1536) ![0, 0] S1536x1536.size inb_S1536x1536_S1536x1536_0_0) (k0_pay1 va vb) Finset.univ (View.stores_vmem_bits_univ h_S1536x1536 rfl) (.inl rfl))
  let x ← loadRows (k0_off1 d) (k0_off1_inb d)
  let _ ← loadSlot (F := F) 0
  storeSlot 0 (k0_pay2 x)

/-- The last two send waits and the exit barrier. -/
def epilogue (d : Dev nD) : Prog (TpuEff nD τ sig (Elt F) Λ₀ .tc) PUnit := do
  waitSend 60
  waitSend 61
  semSignalWord (leftD d) exitS 1#32
  semSignalWord (rightD d) exitS 1#32
  semWaitWord exitS 2#32

/-- The whole body. -/
def flat : Prog (TpuEff nD τ sig (Elt F) Λ₀ .tc) PUnit := do
  let d ← Prog.lift .deviceId
  prologue d
  redHops d 0 31
  gatHops d 0 31
  epilogue d

set_option maxRecDepth 65536 in
/-- The printed body is the flat program, by definitional unfolding. -/
theorem body_eq : cc0_body (F := F) aM (Memref.isWhole_whole _) bM (Memref.isWhole_whole _) oM (Memref.isWhole_whole _) cM (Memref.isWhole_whole _)
    cc0_scratch1 cc0_scratch2 cc0_scratch3 cc0_scoped0 = flat := by
  chain_rfl

end Cert.RingProof

end
-- ==== Proof.Slots.lean ====
/-
  The communication buffer as its eight slots: which elements a slot is, what a load, a store and a transfer of one slot
  do to it, and the whole buffer as its slots.
-/
module

public import proofs.«01_k».proof.Proof.Flat
public import Idealize.ShloMosaic.Lib.Release
public import Idealize.ShloMosaic.Lib.Ring
public import Idealize.ShloMosaic.Lib.Tactic

@[expose] public section

noncomputable section

namespace Cert.RingProof

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode

variable {F : FTy → Type} [FloatOps F]

/-- A slot's worth of numbers. -/
abbrev Chunk (F : FTy → Type) : Type := Vec F S1x48x1536 .bf16

/-- The communication buffer of a device. -/
abbrev cLoc (c : Dev nD) : Loc nD τ sig := (c : Thread nD τ).loc cc0_scratch0

/-- The elements of slot `s`. -/
def slotSet (c : Dev nD) (s : Fin 8) : Finset (Idx (cLoc c)) := (slotR s).set

/-- Where an element of the buffer sits in its slot. -/
def unslot (i : S8x48x1536.Idx) : S1x48x1536.Idx := fun a => match a with
  | ⟨0, _⟩ => ⟨0, Nat.one_pos⟩
  | ⟨1, _⟩ => i 1
  | ⟨2, _⟩ => i 2

/-- Contents of the whole buffer that show `v` in every slot. -/
def bufOf (c : Dev nD) (v : Chunk F) : Buf (Elt F) (cLoc c) := fun i => v (unslot i)

theorem mem_slotSet (c : Dev nD) (s : Fin 8) (i : Idx (cLoc c)) : i ∈ slotSet c s ↔ i 0 = s := by
  unfold slotSet
  rw [Rect.mem_set_unit]
  constructor
  · intro h
    have h0 := h 0
    apply Fin.ext
    simpa [S1x48x1536, Nat.lt_succ_iff, le_antisymm_iff, and_comm] using h0
  · rintro h a
    subst h
    fin_cases a
    · exact ⟨le_refl _, Nat.lt_succ_self _⟩
    · exact ⟨Nat.zero_le _, (i 1).isLt.trans_le (Nat.le_add_left _ _)⟩
    · exact ⟨Nat.zero_le _, (i 2).isLt.trans_le (Nat.le_add_left _ _)⟩

theorem slotSet_nonempty (c : Dev nD) (s : Fin 8) : (slotSet c s).Nonempty :=
  ⟨(fun a => match a with | 0 => s | 1 => ⟨0, by decide⟩ | 2 => ⟨0, by decide⟩ : S8x48x1536.Idx), (mem_slotSet c s _).2 rfl⟩

theorem slotSet_disjoint (c : Dev nD) (s s' : Fin 8) (h : s ≠ s') : Disjoint (slotSet c s) (slotSet c s') :=
  Finset.disjoint_left.mpr fun i h1 h2 => h (((mem_slotSet c s i).1 h1).symm.trans ((mem_slotSet c s' i).1 h2))

theorem slotSet_cover (c : Dev nD) : (Finset.univ : Finset (Fin 8)).biUnion (slotSet c) = Finset.univ :=
  Finset.eq_univ_iff_forall.2 fun i => Finset.mem_biUnion.2 ⟨i 0, Finset.mem_univ _, (mem_slotSet c _ i).2 rfl⟩

/-- The elements under the transfer view of a slot, and under its rectangle, are the slot's. -/
theorem slotM_set (c : Dev nD) (s : Fin 8) : (slotM s).view.set = slotSet c s := by
  refine (View.set_reshape _ _).trans ?_
  rw [View.set_slice]
  exact Finset.map_refl
theorem slotR_set (c : Dev nD) (s : Fin 8) : (cM.access (slotR s)).set = slotSet c s := by
  rw [View.set_slice]
  exact Finset.map_refl

/-- A slot holding any contents; a slot holding `v`. -/
def slotAny {Ix : Type} [DecidableEq Ix] {Name : Type} [DecidableEq Name] {U : Type} [URA U] {Lvl : Type} (c : Dev nD) (s : Fin 8) :
    sProp (MT nD τ sig Ix (Elt F) Name U Lvl) := Release.slot (cLoc c) (slotSet c s)
def slotPts {Ix : Type} [DecidableEq Ix] {Name : Type} [DecidableEq Name] {U : Type} [URA U] {Lvl : Type} (c : Dev nD) (s : Fin 8) (v : Chunk F) :
    sProp (MT nD τ sig Ix (Elt F) Name U Lvl) := iprop(cLoc c ↦[slotSet c s]{fullShare} bufOf c v)

section
variable {Ix : Type} [DecidableEq Ix] {Name : Type} [DecidableEq Name] {U : Type} [URA U] {Lvl : Type}
local notation "𝕄" => MT nD τ sig Ix (Elt F) Name U Lvl

theorem slotPts_any (c : Dev nD) (s : Fin 8) (v : Chunk F) : slotPts c s v ⊢ (slotAny c s : sProp 𝕄) := by
  unfold slotPts slotAny Release.slot
  iintro H; iexists _; iexact H

theorem slotAny_intro (c : Dev nD) (s : Fin 8) (f : Buf (Elt F) (cLoc c)) : iprop(cLoc c ↦[slotSet c s]{fullShare} f) ⊢ (slotAny c s : sProp 𝕄) := by
  unfold slotAny Release.slot
  iintro H; iexists _; iexact H

/-- The whole buffer is its slots. -/
theorem slots_of_whole (c : Dev nD) : iprop(∃ f : Buf (Elt F) (cLoc c), cLoc c ↦{fullShare} f) ⊢ (bigSep Finset.univ (slotAny c) : sProp 𝕄) := by
  have h (f : Buf (Elt F) (cLoc c)) : (iprop(cLoc c ↦{fullShare} f) : sProp 𝕄) ⊢ bigSep Finset.univ (slotAny c) := by
    rw [Ring.pointsTo_blocks (slotSet c) (fun b b' h => slotSet_disjoint c b b' h) (slotSet_cover c) f]
    exact bigSep_mono fun s _ => slotAny_intro c s f
  iintro ⟨%f, H⟩
  iapply (h f); iexact H
theorem whole_of_slots (c : Dev nD) : bigSep Finset.univ (slotAny c) ⊢ (iprop(∃ f : Buf (Elt F) (cLoc c), cLoc c ↦{fullShare} f) : sProp 𝕄) :=
  Ring.pointsTo_blocks_join_exists (slotSet c) (fun b b' h => slotSet_disjoint c b b' h) (slotSet_cover c)
    (bufOf (F := F) c (k0_pay2 (fun _ => FloatOps.ofBits .f32 0)))
end

/-- Where a slot's rectangle puts an index. -/
theorem slotR_emb (s : Fin 8) (x : S1x48x1536.Idx) : unslot ((slotR s).emb x) = x := by
  funext a
  fin_cases a
  · exact (Subsingleton.elim (α := Fin 1) _ _)
  · exact Fin.ext (show 0 + 1 * (x 1).val = (x 1).val by omega)
  · exact Fin.ext (show 0 + 1 * (x 2).val = (x 2).val by omega)

/-- A load of a slot that shows `v` reads `v`. -/
theorem read_slot (c : Dev nD) (s : Fin 8) (v : Chunk F) : (cM.access (slotR s)).read (Elt F) (bufOf c v) = v := by
  funext x
  exact congrArg v (slotR_emb s x)

/-- A store of `w` into a slot leaves it showing `w`. -/
theorem write_slot (c : Dev nD) (s : Fin 8) (f : Buf (Elt F) (cLoc c)) (w : Chunk F) :
    ∀ i ∈ slotSet c s, (cM.access (slotR s)).write (Elt F) f w Finset.univ i = bufOf c w i := by
  intro i hi
  rw [← slotR_set] at hi
  obtain ⟨x, -, rfl⟩ := Finset.mem_map.mp hi
  rw [View.write_emb_of_mem _ _ (Finset.mem_univ x)]
  exact (congrArg w (slotR_emb s x)).symm

/-- A transfer of a slot that shows `v` leaves the slot it lands in showing `v`. -/
theorem copy_slot (c n : Dev nD) (s t : Fin 8) (v : Chunk F) (f : Buf (Elt F) (cLoc n)) :
    ∀ i ∈ slotSet n t, (slotM t).view.write (Elt F) f ((slotM s).view.read (Elt F) (bufOf c v)) Finset.univ i = bufOf n v i := by
  intro i hi
  rw [← slotM_set] at hi
  obtain ⟨x, -, rfl⟩ := Finset.mem_map.mp hi
  rw [View.write_emb_of_mem _ _ (Finset.mem_univ x)]
  have h (r : Fin 8) : bufOf (F := F) c v ((slotM r).view.emb x) = v (Shape.reshapeEquiv squeezes_S1x48x1536_S48x1536.numel_eq x) :=
    congrArg v (slotR_emb r _)
  exact (h s).trans (h t).symm

end Cert.RingProof

end
-- ==== Proof.Proto.lean ====
/-
  The protocol of the ring, for any contents `X c h` of the slot device `c` forwards at hop `h`.

  Device `c` sends to the device on its right and receives from the one on its left. Hop `h` (0 … 61) copies slot
  `h % 8` of the sender into slot `(h + 1) % 8` of the receiver.

  * barrier cell: two duties of one unit. Duty 1, from the right, hands over the right device's slots 1 … 7, which hops
    0 … 6 fill; duty 0, from the left, hands over nothing.
  * send cell of slot `s`: round `r` is hop `8 r + s`; it gives the slot back to its owner, at any contents.
  * receive cell of slot `s`: round `r` is hop `8 r + (s + 7) % 8`; it hands over the slot holding what the left device sent.
  * credit cell: one round of 55 one-unit duties, all signalled by the right device. Two signals to one cell may be
    delivered in either order, so the credit of number `k` carries the news of ALL numbers up to `k`: that the right
    device has given back the slot the sends `0 … k` left. After `k + 1` credits some number at least `k` has arrived. The slots themselves
    are kept in invariants, one per credit number, which the sender opens with the news.
  * exit cell: two duties of one unit, handing over nothing.

  An obligation's index is its level: staging and send waits 0, barrier 1, hop `h`'s landing `2 h + 4`, credit `k`
  `2 k + 7`, exit 150.
-/
module

public import proofs.«01_k».proof.Proof.Slots
public import Idealize.ShloMosaic.Lib.Pipeline.Launch
public import Idealize.ShloMosaic.Lib.Pipeline.Kit
public import Idealize.ShloMosaic.Lib.Pipeline.SiteBlocks
public import Idealize.SL.BI.BigOpNat
public import Mathlib.Algebra.Order.BigOperators.Group.LocallyFinite

@[expose] public section

noncomputable section

namespace Cert.RingProof

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Release

variable {F : FTy → Type} [FloatOps F]

/-! ## The resource algebra -/

abbrev UB : Type := URounds (GSem nD τ sig) ℕ × USlots (Dev nD × ℕ)
abbrev UU : Type := UR sig nD τ × UB

local notation "𝕄" => MT nD τ sig ℕ (Elt F) ℕ UU ℕ

abbrev EP : Emb (UR sig nD τ) (MT nD τ sig ℕ (Elt F) ℕ UU ℕ) := embL
abbrev EB : Emb UB (MT nD τ sig ℕ (Elt F) ℕ UU ℕ) := embR
abbrev ER : Emb (URounds (GSem nD τ sig) ℕ) (MT nD τ sig ℕ (Elt F) ℕ UU ℕ) := Emb.inl.trans EB
abbrev ES : Emb (USlots (Dev nD × ℕ)) (MT nD τ sig ℕ (Elt F) ℕ UU ℕ) := Emb.inr.trans EB

/-! ## The ring of devices -/

/-- The device on the left, and on the right. -/
def lft (c : Dev nD) : Dev nD := ⟨(c.val + 31) % 32, Nat.mod_lt _ (by decide)⟩
def rgt (c : Dev nD) : Dev nD := ⟨(c.val + 1) % 32, Nat.mod_lt _ (by decide)⟩

theorem lft_rgt (c : Dev nD) : lft (rgt c) = c := Fin.ext (by have := c.isLt; simp only [lft, rgt]; show (_ : ℕ) = _; unfold nD at *; omega)
theorem rgt_lft (c : Dev nD) : rgt (lft c) = c := Fin.ext (by have := c.isLt; simp only [lft, rgt]; show (_ : ℕ) = _; unfold nD at *; omega)
theorem lft_ne_rgt (c : Dev nD) : lft c ≠ rgt c := by revert c; decide

theorem leftD_eq (c : Dev nD) : leftD c = lft c := by revert c; decide +kernel
theorem rightD_eq (c : Dev nD) : rightD c = rgt c := by revert c; decide +kernel

def ring : Dev nD ≃ Dev nD := ⟨rgt, lft, lft_rgt, rgt_lft⟩

/-! ## The cells -/

/-- The kernel's cells on one device: send, receive, and credit, exit, barrier. -/
abbrev Key : Type := Fin 8 ⊕ Fin 8 ⊕ Fin 3

/-- The semaphore of each. -/
def csem : Key → SemLoc sig
  | .inl s => .dma (sendS s)
  | .inr (.inl s) => .dma (recvS s)
  | .inr (.inr 0) => .reg credS
  | .inr (.inr 1) => .reg exitS
  | .inr (.inr 2) => .reg barS

/-- Which of them a semaphore is. -/
def role : SemLoc sig → Option Key
  | .reg q => if q = credS then some (.inr (.inr 0)) else if q = exitS then some (.inr (.inr 1)) else if q = barS then some (.inr (.inr 2)) else none
  | .dma q => if 3 ≤ q.val ∧ q.val < 11 then some (.inl (Fin.ofNat 8 (q.val - 3))) else if 11 ≤ q.val ∧ q.val < 19 then some (.inr (.inl (Fin.ofNat 8 (q.val - 11)))) else none

theorem role_csem (k : Key) : role (csem k) = some k := by revert k; decide
theorem csem_inj : Function.Injective csem := fun a b h => Option.some.inj ((role_csem a).symm.trans ((congrArg role h).trans (role_csem b)))

abbrev cell (c : Dev nD) (k : Key) : GSem nD τ sig := ((c : Thread nD τ), csem k)
abbrev sendCell (c : Dev nD) (s : Fin 8) : GSem nD τ sig := cell c (.inl s)
abbrev recvCell (c : Dev nD) (s : Fin 8) : GSem nD τ sig := cell c (.inr (.inl s))
abbrev credCell (c : Dev nD) : GSem nD τ sig := cell c (.inr (.inr 0))
abbrev exitCell (c : Dev nD) : GSem nD τ sig := cell c (.inr (.inr 1))
abbrev barCell (c : Dev nD) : GSem nD τ sig := cell c (.inr (.inr 2))

/-- The units one copy of a slot counts. -/
abbrev N : ℕ := (slotM 0).view.dmaCredit
theorem N_pos : 0 < N := View.dmaCredit_pos _ (by decide)

/-! ## The schedule -/

/-- The news that device `d`'s send of number `i` has left its slot and the slot is free again, and that the receive cell
    of that slot has reached the round of the hop that will fill it next. -/
def freed (d : Dev nD) (i : ℕ) : sProp 𝕄 := iprop(released ES (d, i) 1 ∗ reached ER (recvCell d (sl i)) ((i + 7) / 8))

instance freed_persistent (d : Dev nD) (i : ℕ) : BI.Persistent (freed (F := F) d i) := by unfold freed; infer_instance
instance freed_storable (d : Dev nD) (i : ℕ) : BI.Storable (upEmb : UEmb _ 𝕄) (freed (F := F) d i) := by unfold freed; infer_instance

instance slotAny_storable (c : Dev nD) (s : Fin 8) : BI.Storable (upEmb : UEmb _ 𝕄) (slotAny (F := F) c s) := by unfold slotAny; infer_instance
instance slotPts_storable (c : Dev nD) (s : Fin 8) (v : Chunk F) : BI.Storable (upEmb : UEmb _ 𝕄) (slotPts c s v) := by unfold slotPts; infer_instance

variable (X : Dev nD → ℕ → Chunk F)

/-- The duties of a cell's round, the units each pays and what it hands over. -/
def dutiesOf : Option Key → ℕ → Finset ℕ
  | some (.inl s), r => if 8 * r + s.val < 62 then {0} else ∅
  | some (.inr (.inl s)), r => if 8 * r + (s.val + 7) % 8 < 62 then {0} else ∅
  | some (.inr (.inr 0)), r => if r = 0 then Finset.range 55 else ∅
  | some (.inr (.inr _)), r => if r = 0 then {0, 1} else ∅
  | none, _ => ∅

def amountOf' : Option Key → ℕ
  | some (.inl _) => N
  | some (.inr (.inl _)) => N
  | _ => 1

def payOf (c : Dev nD) : Option Key → ℕ → ℕ → sProp 𝕄
  | some (.inl s), _, _ => slotAny c s
  | some (.inr (.inl s)), r, _ => slotPts c s (X (lft c) (8 * r + (s.val + 7) % 8))
  | some (.inr (.inr 0)), _, k => bigSep (Finset.range (k + 1)) (freed (rgt c))
  | some (.inr (.inr 2)), _, d => if d = 1 then bigSep (Finset.Ico 0 7) (fun i => slotAny (rgt c) (sl (i + 1))) else iprop(emp)
  | _, _, _ => iprop(emp)

instance payOf_storable (c : Dev nD) (k : Option Key) (r d : ℕ) : BI.Storable (upEmb : UEmb _ 𝕄) (payOf X c k r d) := by
  unfold payOf
  split
  · infer_instance
  · infer_instance
  · infer_instance
  · split <;> infer_instance
  · infer_instance

def Rd : Rounds.Schedule (GSem nD τ sig) ℕ 𝕄 where
  duties g r := if g.1.2 = .tc then dutiesOf (role g.2) r else ∅
  unitless _ := False
  amount g _ _ := amountOf' (role g.2)
  payload g r d := payOf X g.1.1 (role g.2) r d
  amount_pos g _ _ _ := by
    show 0 < amountOf' (role g.2)
    unfold amountOf'
    split
    · exact N_pos
    · exact N_pos
    · exact Nat.one_pos

instance Rd_payload_storable (g : GSem nD τ sig) (r d : ℕ) : BI.Storable (upEmb : UEmb _ 𝕄) ((Rd X).payload g r d) :=
  payOf_storable X g.1.1 (role g.2) r d

section Tables
variable (c : Dev nD)

theorem duties_cell (k : Key) (r : ℕ) : (Rd X).duties (cell c k) r = dutiesOf (some k) r := by
  show (if (c : Thread nD τ).2 = Proc.tc then dutiesOf (role (csem k)) r else ∅) = _
  rw [if_pos rfl, role_csem]
theorem amount_cell (k : Key) (r d : ℕ) : (Rd X).amount (cell c k) r d = amountOf' (some k) := congrArg amountOf' (role_csem k)
theorem payload_cell (k : Key) (r d : ℕ) : (Rd X).payload (cell c k) r d = payOf X c (some k) r d := congrArg (payOf X c · r d) (role_csem k)

/-- The send cell's round of hop `h`. -/
theorem duties_send (h : ℕ) (hh : h < 62) : (Rd X).duties (sendCell c (sl h)) (h / 8) = {0} :=
  (duties_cell X c _ _).trans (if_pos (show 8 * (h / 8) + h % 8 < 62 by omega))
/-- The receive cell's round of hop `h`. -/
theorem duties_recv (h : ℕ) (hh : h < 62) : (Rd X).duties (recvCell c (sl (h + 1))) (h / 8) = {0} :=
  (duties_cell X c _ _).trans (if_pos (show 8 * (h / 8) + ((h + 1) % 8 + 7) % 8 < 62 by omega))
theorem duties_cred : (Rd X).duties (credCell c) 0 = Finset.range 55 := (duties_cell X c _ _).trans rfl
theorem duties_exit : (Rd X).duties (exitCell c) 0 = {0, 1} := (duties_cell X c _ _).trans rfl
theorem duties_bar : (Rd X).duties (barCell c) 0 = {0, 1} := (duties_cell X c _ _).trans rfl

theorem payload_send (h : ℕ) : (Rd X).payload (sendCell c (sl h)) (h / 8) 0 = slotAny c (sl h) := payload_cell X c _ _ _
theorem payload_recv (h : ℕ) : (Rd X).payload (recvCell c (sl (h + 1))) (h / 8) 0 = slotPts c (sl (h + 1)) (X (lft c) h) := by
  rw [payload_cell]
  show slotPts c _ (X (lft c) (8 * (h / 8) + ((h + 1) % 8 + 7) % 8)) = _
  rw [show 8 * (h / 8) + ((h + 1) % 8 + 7) % 8 = h by omega]
theorem payload_cred (k : ℕ) : (Rd X).payload (credCell c) 0 k = bigSep (Finset.range (k + 1)) (freed (rgt c)) := payload_cell X c _ _ _
theorem payload_exit (d : ℕ) : (Rd X).payload (exitCell c) 0 d = iprop(emp) := payload_cell X c _ _ _
theorem payload_bar_one : (Rd X).payload (barCell c) 0 1 = bigSep (Finset.Ico 0 7) (fun i => slotAny (rgt c) (sl (i + 1))) :=
  (payload_cell X c _ _ _).trans rfl
theorem payload_bar_zero : (Rd X).payload (barCell c) 0 0 = iprop(emp) := (payload_cell X c _ _ _).trans rfl

theorem expect_send (h : ℕ) (hh : h < 62) : (Rd X).expect (sendCell c (sl h)) (h / 8) = N := by
  unfold Schedule.expect Schedule.amountOf; rw [duties_send X c h hh, Finset.sum_singleton]; exact amount_cell X c _ _ _
theorem expect_recv (h : ℕ) (hh : h < 62) : (Rd X).expect (recvCell c (sl (h + 1))) (h / 8) = N := by
  unfold Schedule.expect Schedule.amountOf; rw [duties_recv X c h hh, Finset.sum_singleton]; exact amount_cell X c _ _ _
theorem expect_cred : (Rd X).expect (credCell c) 0 = 55 := by
  unfold Schedule.expect Schedule.amountOf
  rw [duties_cred, Finset.sum_congr rfl fun d _ => amount_cell X c _ 0 d]
  exact (Finset.sum_const _).trans (by rw [Finset.card_range]; rfl)
theorem expect_exit : (Rd X).expect (exitCell c) 0 = 2 := by
  unfold Schedule.expect Schedule.amountOf
  rw [duties_exit, Finset.sum_congr rfl fun d _ => amount_cell X c _ 0 d]; rfl
theorem expect_bar : (Rd X).expect (barCell c) 0 = 2 := by
  unfold Schedule.expect Schedule.amountOf
  rw [duties_bar, Finset.sum_congr rfl fun d _ => amount_cell X c _ 0 d]; rfl

/-- How many rounds of receive cell `s` are over after `h` landings, and of send cell `s` after `w` send waits. -/
def rc (h : ℕ) (s : Fin 8) : ℕ := (h + 7 - (s.val + 7) % 8) / 8
def sc (w : ℕ) (s : Fin 8) : ℕ := (w + 7 - s.val) / 8

theorem duties_send_done (s : Fin 8) (r : ℕ) (hr : sc 62 s ≤ r) : (Rd X).duties (sendCell c s) r = ∅ :=
  (duties_cell X c _ _).trans (if_neg (show ¬ 8 * r + s.val < 62 by unfold sc at hr; omega))
theorem duties_recv_done (s : Fin 8) (r : ℕ) (hr : rc 62 s ≤ r) : (Rd X).duties (recvCell c s) r = ∅ :=
  (duties_cell X c _ _).trans (if_neg (show ¬ 8 * r + (s.val + 7) % 8 < 62 by unfold rc at hr; omega))
theorem duties_reg_done (k : Fin 3) (r : ℕ) (hr : 1 ≤ r) : (Rd X).duties (cell c (.inr (.inr k))) r = ∅ := by
  rw [duties_cell]
  fin_cases k <;> exact if_neg (by omega)

theorem rc_at (h : ℕ) : rc h (sl (h + 1)) = h / 8 := by unfold rc; simp only; omega
theorem rc_at_succ (h : ℕ) : rc (h + 1) (sl (h + 1)) = h / 8 + 1 := by unfold rc; simp only; omega
theorem rc_ne (h : ℕ) (s : Fin 8) (hs : s ≠ sl (h + 1)) : rc (h + 1) s = rc h s := by
  have : s.val ≠ (h + 1) % 8 := fun e => hs (Fin.ext e)
  unfold rc; omega
theorem sc_at (w : ℕ) : sc w (sl w) = w / 8 := by unfold sc; simp only; omega
theorem sc_at_succ (w : ℕ) : sc (w + 1) (sl w) = w / 8 + 1 := by unfold sc; simp only; omega
theorem sc_ne (w : ℕ) (s : Fin 8) (hs : s ≠ sl w) : sc (w + 1) s = sc w s := by
  have : s.val ≠ w % 8 := fun e => hs (Fin.ext e)
  unfold sc; omega
/-- After the `h - 1` send waits made before hop `h`, the send cell of hop `h` stands at that hop's round. -/
theorem sc_hop (h : ℕ) : sc (h + 1 - 2) (sl h) = h / 8 := by unfold sc; simp only; omega
/-- When send `i` is waited for, at hop `i + 2`, the receive cell of its slot stands at the round that fills it next. -/
theorem rc_freed (i : ℕ) : rc (i + 2) (sl i) = (i + 7) / 8 := by unfold rc; simp only; omega

end Tables

/-! ## What a device owes, and the levels -/

/-- The exit signals to both neighbours; -/
def exitDue (c : Dev nD) : CellTallies nD τ sig ℕ := tallyAt (exitCell (rgt c)) 150 1 + tallyAt (exitCell (lft c)) 150 1
/-- the landings from hop `a` on, the credits from number `b` on, and the exit signals. -/
def dues (c : Dev nD) (a b : ℕ) : CellTallies nD τ sig ℕ :=
  ∑ i ∈ Finset.Ico a 62, tallyAt (recvCell (rgt c) (sl (i + 1))) (2 * i + 4) N
    + (∑ k ∈ Finset.Ico b 55, tallyAt (credCell (lft c)) (2 * k + 7) 1 + exitDue c)
/-- The two barrier signals besides. -/
def barDue (c : Dev nD) : CellTallies nD τ sig ℕ := tallyAt (barCell (rgt c)) 1 1 + tallyAt (barCell (lft c)) 1 1
def O₀ (c : Dev nD) : CellTallies nD τ sig ℕ := dues c 0 0 + barDue c

/-- All levels in use are below this. -/
abbrev top : ℕ := 200
abbrev Lv : GSem nD τ sig → Finset ℕ := SiteBlocks.L top
abbrev lev : GSem nD τ sig → ℕ → ℕ := SiteBlocks.lv

/-- The levels, as knowledge. -/
@[irreducible] def levs : sProp 𝕄 := levAts Lv lev
instance levs_persistent : BI.Persistent (levs (F := F)) := by unfold levs; infer_instance

theorem tallyAt_pos' {g : GSem nD τ sig} {i n : ℕ} {g' : GSem nD τ sig} {k : ℕ} (h : 0 < (tallyAt g i n : CellTallies nD τ sig ℕ) g' k) : g' = g ∧ k = i := by
  rw [tallyAt_apply] at h
  by_contra hn
  rw [if_neg hn] at h
  exact Nat.lt_irrefl 0 h

theorem add_pos' {A B : CellTallies nD τ sig ℕ} {g : GSem nD τ sig} {k : ℕ} (h : 0 < (A + B) g k) : 0 < A g k ∨ 0 < B g k := by
  rw [Pi.add_apply, Finsupp.add_apply] at h
  exact Nat.add_pos_iff_pos_or_pos.mp h

theorem sum_pos' {s : Finset ℕ} {A : ℕ → CellTallies nD τ sig ℕ} {g : GSem nD τ sig} {k : ℕ} (h : 0 < (∑ i ∈ s, A i) g k) : ∃ i ∈ s, 0 < A i g k := by
  rw [Finset.sum_apply, Finsupp.finset_sum_apply] at h
  by_contra hn
  push Not at hn
  rw [Finset.sum_eq_zero fun i hi => Nat.le_zero.mp (hn i hi)] at h
  exact Nat.lt_irrefl 0 h

theorem exitDue_pos {c : Dev nD} {g : GSem nD τ sig} {k : ℕ} (h : 0 < exitDue c g k) : g.1.2 = .tc ∧ k = 150 := by
  rcases add_pos' h with h | h <;> obtain ⟨rfl, rfl⟩ := tallyAt_pos' h <;> exact ⟨rfl, rfl⟩

theorem dues_pos {c : Dev nD} {a b : ℕ} {g : GSem nD τ sig} {k : ℕ} (h : 0 < dues c a b g k) :
    g.1.2 = .tc ∧ k < top ∧ (2 * a + 4 ≤ k ∨ 2 * b + 7 ≤ k ∨ k = 150) := by
  rcases add_pos' h with h | h
  · obtain ⟨i, hi, h⟩ := sum_pos' h
    obtain ⟨rfl, rfl⟩ := tallyAt_pos' h
    have := Finset.mem_Ico.mp hi
    exact ⟨rfl, by unfold top; omega, .inl (by omega)⟩
  · rcases add_pos' h with h | h
    · obtain ⟨i, hi, h⟩ := sum_pos' h
      obtain ⟨rfl, rfl⟩ := tallyAt_pos' h
      have := Finset.mem_Ico.mp hi
      exact ⟨rfl, by unfold top; omega, .inr (.inl (by omega))⟩
    · obtain ⟨hg, rfl⟩ := exitDue_pos h
      exact ⟨hg, by decide, .inr (.inr rfl)⟩

/-- A wait below everything the device still owes. -/
theorem mayWait_dues (c : Dev nD) (sm : SemLoc sig) {a b i : ℕ} (ha : i < 2 * a + 4) (hb : i < 2 * b + 7) (hi : i < 150) :
    levs (F := F) ⊢ MayWait (c : Thread nD τ) sm i (dues c a b) := by
  unfold levs; exact
  SiteBlocks.mayWait_of (by unfold top; omega) c sm _ fun g k h => by
    obtain ⟨hg, hk, h⟩ := dues_pos h
    exact ⟨SiteBlocks.mem_L' hg hk, by omega⟩

theorem O₀_pos {c : Dev nD} {g : GSem nD τ sig} {k : ℕ} (h : 0 < O₀ c g k) : g.1.2 = .tc ∧ k < top ∧ 0 < k := by
  rcases add_pos' h with h | h
  · obtain ⟨hg, hk, h⟩ := dues_pos h
    exact ⟨hg, hk, by omega⟩
  · rcases add_pos' h with h | h <;> obtain ⟨rfl, rfl⟩ := tallyAt_pos' h <;> exact ⟨rfl, by decide, by decide⟩

/-- The staging waits, made at index 0 while everything is owed. -/
theorem mayWait_start (c : Dev nD) (sm : SemLoc sig) : levs (F := F) ⊢ MayWait (c : Thread nD τ) sm 0 (O₀ c) := by
  unfold levs; exact
  SiteBlocks.mayWait_of (by decide) c sm _ fun g k h => by
    obtain ⟨hg, hk, h⟩ := O₀_pos h
    exact ⟨SiteBlocks.mem_L' hg hk, h⟩

theorem dues_hop (c : Dev nD) {a : ℕ} (b : ℕ) (ha : a < 62) : dues c a b = dues c (a + 1) b + tallyAt (recvCell (rgt c) (sl (a + 1))) (2 * a + 4) N := by
  unfold dues
  rw [Finset.sum_eq_sum_Ico_succ_bot ha]
  abel
theorem dues_credit (c : Dev nD) (a : ℕ) {b : ℕ} (hb : b < 55) : dues c a b = dues c a (b + 1) + tallyAt (credCell (lft c)) (2 * b + 7) 1 := by
  unfold dues
  rw [Finset.sum_eq_sum_Ico_succ_bot hb]
  abel
theorem dues_credit_over (c : Dev nD) (a : ℕ) {b : ℕ} (hb : 55 ≤ b) : dues c a b = dues c a 55 := by
  unfold dues
  rw [Finset.Ico_eq_empty_of_le hb, Finset.Ico_self]
theorem dues_end (c : Dev nD) {b : ℕ} (hb : 55 ≤ b) : dues c 62 b = exitDue c := by
  unfold dues
  rw [Finset.Ico_eq_empty_of_le hb, Finset.Ico_self, Finset.sum_empty, Finset.sum_empty, zero_add, zero_add]

end Cert.RingProof

end
-- ==== Proof.Hop.lean ====
/-
  The effects of one hop, each stepped through once at a symbolic device and a symbolic hop number: the credit wait, the
  send wait, the credit signal, the copy, the landing wait, and the loads and stores.
-/
module

public import proofs.«01_k».proof.Proof.Proto

@[expose] public section

noncomputable section

namespace Cert.RingProof

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Release

variable {F : FTy → Type} [FloatOps F]
local notation "𝕄" => MT nD τ sig ℕ (Elt F) ℕ UU ℕ

abbrev 𝒱₀ : Variants := Variants.none

/-- The run of a piece of the body on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (X : Dev nD → ℕ → Chunk F)

/-! ## What every device knows -/

/-- The cells' invariants and the slots' invariants, under the names `K` and `J`; that every cell has reached round 0; the levels. -/
def recs (K : Dev nD × Key → ℕ) (J : Dev nD × ℕ → ℕ) : sProp 𝕄 :=
  iprop(bigSep Finset.univ (fun x : Dev nD × Key => cellInv ER (Rd X) (K x) (cell x.1 x.2))
    ∗ bigSep Finset.univ (fun x : Dev nD × Key => reached ER (cell x.1 x.2) 0)
    ∗ bigSep (Finset.univ ×ˢ Finset.range 55) (fun k : Dev nD × ℕ => slotInv ES (J k) k (slotAny k.1 (sl k.2)))
    ∗ levs (F := F))

instance recs_persistent (K : Dev nD × Key → ℕ) (J : Dev nD × ℕ → ℕ) : BI.Persistent (recs X K J) := by unfold recs; infer_instance

section Recs
variable (K : Dev nD × Key → ℕ) (J : Dev nD × ℕ → ℕ) (c : Dev nD)

theorem recs_cell (k : Key) : recs X K J ⊢ cellInv ER (Rd X) (K (c, k)) (cell c k) := by
  unfold recs
  have h : bigSep Finset.univ (fun x : Dev nD × Key => cellInv ER (Rd X) (K x) (cell x.1 x.2)) ⊢ cellInv ER (Rd X) (K (c, k)) (cell c k) :=
    bigSep_elim (Finset.mem_univ (c, k))
  iintro ⟨H, -⟩
  iapply h; iexact H
theorem recs_reached (k : Key) : recs X K J ⊢ reached ER (cell c k) 0 := by
  unfold recs
  have h : bigSep Finset.univ (fun x : Dev nD × Key => reached ER (cell x.1 x.2) 0) ⊢ (reached ER (cell c k) 0 : sProp 𝕄) :=
    bigSep_elim (Finset.mem_univ (c, k))
  iintro ⟨-, H, -⟩
  iapply h; iexact H
theorem recs_slot (i : ℕ) (hi : i < 55) : recs X K J ⊢ slotInv ES (J (c, i)) (c, i) (slotAny c (sl i)) := by
  unfold recs
  have h : bigSep (Finset.univ ×ˢ Finset.range 55) (fun k : Dev nD × ℕ => slotInv ES (J k) k (slotAny k.1 (sl k.2)))
      ⊢ (slotInv ES (J (c, i)) (c, i) (slotAny c (sl i)) : sProp 𝕄) :=
    bigSep_elim (Finset.mem_product.2 ⟨Finset.mem_univ c, Finset.mem_range.2 hi⟩ : (c, i) ∈ _)
  iintro ⟨-, -, H, -⟩
  iapply h; iexact H
theorem recs_lev : recs X K J ⊢ levs (F := F) := by
  unfold recs
  iintro ⟨-, -, -, H⟩; iexact H
end Recs

/-! ## What a device holds -/

/-- What it owes, whatever it has waited for. -/
def owesE (c : Dev nD) (O : CellTallies nD τ sig ℕ) : sProp 𝕄 := iprop(∃ W, owes (c : Thread nD τ) O W)

/-- Its place at a cell at the start of a round, and that the round is reached. -/
def posn (g : GSem nD τ sig) (R : ℕ) : sProp 𝕄 := iprop(atPos ER g R ∅ 0 ∗ reached ER g R)

/-- Its places at its receive cells after `h` landings and at its send cells after `w` send waits. -/
def recvPos (c : Dev nD) (h : ℕ) : sProp 𝕄 := bigSep Finset.univ (fun s => posn (F := F) (recvCell c s) (rc h s))
def sendPos (c : Dev nD) (w : ℕ) : sProp 𝕄 := bigSep Finset.univ (fun s => posn (F := F) (sendCell c s) (sc w s))

/-- Its place at its credit cell after `m` credits: of the one round some credits `T` have arrived, with their news. -/
def credPos (c : Dev nD) (m : ℕ) : sProp 𝕄 :=
  if m < 55 then iprop(∃ T : Finset ℕ, ⌜T ⊆ Finset.range 55⌝ ∗ atPos ER (credCell c) 0 T m ∗ bigSep T (fun k => bigSep (Finset.range (k + 1)) (freed (F := F) (rgt c))))
  else iprop(atPos ER (credCell c) 1 ∅ 0)

/-- One of eight taken out, to be put back changed. -/
theorem take_one {M : Type} [URA M] (Φ : Fin 8 → ℕ → sProp M) (f g : Fin 8 → ℕ) (s₀ : Fin 8) (h : ∀ s, s ≠ s₀ → g s = f s) :
    bigSep Finset.univ (fun s => Φ s (f s)) ⊢ iprop(Φ s₀ (f s₀) ∗ (Φ s₀ (g s₀) -∗ bigSep Finset.univ (fun s => Φ s (g s)))) := by
  have e1 : bigSep Finset.univ (fun s => Φ s (f s)) ⊢ iprop(Φ s₀ (f s₀) ∗ bigSep (Finset.univ.erase s₀) (fun s => Φ s (f s))) :=
    Entails.of_eq (bigSep_erase (Finset.mem_univ s₀))
  have e2 : iprop(Φ s₀ (g s₀) ∗ bigSep (Finset.univ.erase s₀) (fun s => Φ s (f s))) ⊢ bigSep Finset.univ (fun s => Φ s (g s)) := by
    rw [BI.bigSep_congr (s := Finset.univ.erase s₀) (Φ := fun s => Φ s (f s)) (Ψ := fun s => Φ s (g s)) fun s hs => by
      show Φ s (f s) = Φ s (g s)
      rw [h s (Finset.ne_of_mem_erase hs)]]
    exact Entails.of_eq (bigSep_erase (Finset.mem_univ s₀) (Φ := fun s => Φ s (g s))).symm
  iintro H
  ihave H := e1 $$ H
  icases H with ⟨H1, H2⟩
  isplitl [H1]; · iexact H1
  iintro H
  iapply e2
  isplitl [H] <;> iassumption

theorem rest_send (c : Dev nD) (w : ℕ) (hw : w < 62) :
    bigSep ((Rd X).duties (sendCell c (sl w)) (w / 8) \ ∅) (fun d => (Rd X).payload (sendCell c (sl w)) (w / 8) d) = slotAny c (sl w) := by
  rw [Finset.sdiff_empty, duties_send X c w hw, bigSep_singleton, payload_send]
theorem rest_recv (c : Dev nD) (h : ℕ) (hh : h < 62) :
    bigSep ((Rd X).duties (recvCell c (sl (h + 1))) (h / 8) \ ∅) (fun d => (Rd X).payload (recvCell c (sl (h + 1))) (h / 8) d)
      = slotPts c (sl (h + 1)) (X (lft c) h) := by
  rw [Finset.sdiff_empty, duties_recv X c h hh, bigSep_singleton, payload_recv]

theorem slot_credit (s : Fin 8) : (slotM s).view.dmaCredit = N := by revert s; decide

section Steps
variable (K : Dev nD × Key → ℕ) (J : Dev nD × ℕ → ℕ) (c : Dev nD)

/-- The wait for send `w` to have been read out of its slot gives the slot back. -/
theorem step_waitSend (w : ℕ) (hw : w < 62) (O : CellTallies nD τ sig ℕ)
    (hO : levs (F := F) ⊢ MayWait (c : Thread nD τ) (csem (.inl (sl w))) 0 O) (Q : PUnit → sProp 𝕄) :
    iprop(recs X K J ∗ owesE c O ∗ sendPos c w ∗ cred (tallyAt (sendCell c (sl w)) 0 N))
      ⊢ iprop((owesE c O ∗ sendPos c (w + 1) ∗ slotAny c (sl w) -∗ Q ⟨⟩) -∗ wpc c (waitSend w) Q) := by
  have hM : recs X K J ⊢ MayWait (c : Thread nD τ) (csem (.inl (sl w))) 0 O := (recs_lev X K J).trans hO
  unfold owesE sendPos waitSend Prog.lift
  rw [← slot_credit (sl w)]
  iintro ⟨#HR, ⟨%W, HO⟩, Hpos, Hc⟩ HQ
  ihave Hpos := (take_one (fun s r => posn (F := F) (sendCell c s) r) (sc w) (sc (w + 1)) (sl w) (fun s hs => sc_ne w s hs)) $$ Hpos
  icases Hpos with ⟨Hp, Hback⟩
  unfold posn
  icases Hp with ⟨Hat, -⟩
  rw [sc_at, sc_at_succ]
  iapply (Rounds.wp_wait_rest_token 𝒱₀ ER (Rd X) (c : Thread nD τ) none (κ := K (c, .inl (sl w))) (sm := csem (.inl (sl w)))
      (k' := (slotM (sl w)).view.dmaCredit)
      (wpE_waitDma2_eq 𝒱₀ (c : Thread nD τ) none Set.univ) (Set.mem_univ _) 0 (O := O) (W := W) (R := w / 8) (m := 0) (T := ∅)
      ((Nat.zero_add _).trans ((slot_credit _).trans (expect_send X c w hw).symm))) $$ [Hc HO Hat]
  · isplitr; · iapply (recs_cell X K J c (.inl (sl w))); iexact HR
    isplitl [Hc]; · iexact Hc
    isplitl [HO]; · iexact HO
    isplitr; · iapply hM; iexact HR
    iexact Hat
  iintro ⟨HO, Hat, Hr, Hpay⟩
  rw [wp_ret]
  imodintro
  iapply HQ
  isplitl [HO]; · iexists _; iexact HO
  isplitl [Hback Hat Hr]
  · iapply Hback; isplitl [Hat] <;> iassumption
  iapply (Entails.of_eq (rest_send X c w hw)); iexact Hpay

/-- The wait for the copy of hop `h` from the left gives the slot it landed in, showing what the left device sent. -/
theorem step_waitRecv (h : ℕ) (hh : h < 62) (O : CellTallies nD τ sig ℕ)
    (hO : levs (F := F) ⊢ MayWait (c : Thread nD τ) (csem (.inr (.inl (sl (h + 1))))) (2 * h + 4) O) (Q : PUnit → sProp 𝕄) :
    iprop(recs X K J ∗ owesE c O ∗ recvPos c h ∗ cred (tallyAt (recvCell c (sl (h + 1))) (2 * h + 4) N))
      ⊢ iprop((owesE c O ∗ recvPos c (h + 1) ∗ slotPts c (sl (h + 1)) (X (lft c) h) -∗ Q ⟨⟩) -∗ wpc c (waitRecv h) Q) := by
  have hM : recs X K J ⊢ MayWait (c : Thread nD τ) (csem (.inr (.inl (sl (h + 1))))) (2 * h + 4) O := (recs_lev X K J).trans hO
  unfold owesE recvPos waitRecv Prog.lift
  rw [← slot_credit (sl (h + 1))]
  iintro ⟨#HR, ⟨%W, HO⟩, Hpos, Hc⟩ HQ
  ihave Hpos := (take_one (fun s r => posn (F := F) (recvCell c s) r) (rc h) (rc (h + 1)) (sl (h + 1)) (fun s hs => rc_ne h s hs)) $$ Hpos
  icases Hpos with ⟨Hp, Hback⟩
  unfold posn
  icases Hp with ⟨Hat, -⟩
  rw [rc_at, rc_at_succ]
  iapply (Rounds.wp_wait_rest_token 𝒱₀ ER (Rd X) (c : Thread nD τ) none (κ := K (c, .inr (.inl (sl (h + 1))))) (sm := csem (.inr (.inl (sl (h + 1)))))
      (k' := (slotM (sl (h + 1))).view.dmaCredit)
      (wpE_waitDma2_eq 𝒱₀ (c : Thread nD τ) none Set.univ) (Set.mem_univ _) (2 * h + 4) (O := O) (W := W) (R := h / 8) (m := 0) (T := ∅)
      ((Nat.zero_add _).trans ((slot_credit _).trans (expect_recv X c h hh).symm))) $$ [Hc HO Hat]
  · isplitr; · iapply (recs_cell X K J c (.inr (.inl (sl (h + 1))))); iexact HR
    isplitl [Hc]; · iexact Hc
    isplitl [HO]; · iexact HO
    isplitr; · iapply hM; iexact HR
    iexact Hat
  iintro ⟨HO, Hat, Hr, Hpay⟩
  rw [wp_ret]
  imodintro
  iapply HQ
  isplitl [HO]; · iexists _; iexact HO
  isplitl [Hback Hat Hr]
  · iapply Hback; isplitl [Hat] <;> iassumption
  iapply (Entails.of_eq (rest_recv X c h hh)); iexact Hpay

/-- One unit signalled to a regular cell of device `n`: it pays duty `d` there, at index `i`, and hands over the duty's payload. -/
theorem step_signal (n : Dev nD) (k : Fin 3) (q : Sem sig) (hq : csem (.inr (.inr k)) = .reg q) (d i : ℕ)
    (hd : d ∈ (Rd X).duties (cell n (.inr (.inr k))) 0) (O : CellTallies nD τ sig ℕ) (Q : PUnit → sProp 𝕄) :
    iprop(recs X K J ∗ owesE c (O + tallyAt (cell n (.inr (.inr k))) i 1) ∗ dutyTok ER (cell n (.inr (.inr k))) 0 d
        ∗ (Rd X).payload (cell n (.inr (.inr k))) 0 d)
      ⊢ iprop((owesE c O -∗ Q ⟨⟩) -∗ wpc c (semSignalWord n q 1#32) Q) := by
  have ha := amount_cell X n (.inr (.inr k)) 0 d
  have hR := recs_cell X K J n (.inr (.inr k))
  have hr := recs_reached X K J n (.inr (.inr k))
  unfold cell at *
  rw [hq] at *
  unfold owesE semSignalWord
  iintro ⟨#HR, ⟨%W, HO⟩, Ht, Hpay⟩ HQ
  iapply (Rounds.wp_signal 𝒱₀ ER (Rd X) (c : Thread nD τ) none (dst := (n : Thread nD τ)) (κ := K (n, .inr (.inr k)))
      (d := d) (r := 0) (k' := (1#32).toInt.toNat) hd (ha.trans (show 1 = (1#32).toInt.toNat by decide)) i O rfl) $$ [HO Ht Hpay]
  · isplitr; · iapply hR; iexact HR
    isplitl [HO]; · iexact HO
    isplitl [Ht]; · iexact Ht
    isplitl [Hpay]; · iexact Hpay
    iapply hr; iexact HR
  iintro HO
  rw [wp_ret]
  imodintro
  iapply HQ
  iexists _; iexact HO

/-- All the units of a regular cell's one round waited for at once give the round's payloads. -/
theorem step_wait (k : Fin 3) (q : Sem sig) (hq : csem (.inr (.inr k)) = .reg q) (n : BitVec 32) (i m : ℕ) (hm : n.toInt = (m : ℤ))
    (he : (Rd X).expect (cell c (.inr (.inr k))) 0 = m) (O : CellTallies nD τ sig ℕ)
    (hO : levs (F := F) ⊢ MayWait (c : Thread nD τ) (csem (.inr (.inr k))) i O) (Q : PUnit → sProp 𝕄) :
    iprop(recs X K J ∗ owesE c O ∗ atPos ER (cell c (.inr (.inr k))) 0 ∅ 0 ∗ cred (tallyAt (cell c (.inr (.inr k))) i m))
      ⊢ iprop((owesE c O ∗ atPos ER (cell c (.inr (.inr k))) 1 ∅ 0
          ∗ bigSep ((Rd X).duties (cell c (.inr (.inr k))) 0 \ ∅) (fun d => (Rd X).payload (cell c (.inr (.inr k))) 0 d) -∗ Q ⟨⟩)
        -∗ wpc c (semWaitWord q n) Q) := by
  have hM : recs X K J ⊢ MayWait (c : Thread nD τ) (csem (.inr (.inr k))) i O := (recs_lev X K J).trans hO
  have hR := recs_cell X K J c (.inr (.inr k))
  unfold cell at he hR ⊢
  rw [hq] at hM he hR ⊢
  unfold owesE semWaitWord
  rw [hm]
  iintro ⟨#HR, ⟨%W, HO⟩, Hat, Hc⟩ HQ
  iapply (Rounds.wp_wait_rest_token 𝒱₀ ER (Rd X) (c : Thread nD τ) none (κ := K (c, .inr (.inr k))) (sm := .reg q) (k' := m)
      (wpE_semWait_eq 𝒱₀ (c : Thread nD τ) none Set.univ) (Set.mem_univ _) i (O := O) (W := W) (R := 0) (m := 0) (T := ∅)
      ((Nat.zero_add _).trans he.symm)) $$ [Hc HO Hat]
  · isplitr; · iapply hR; iexact HR
    isplitl [Hc]; · iexact Hc
    isplitl [HO]; · iexact HO
    isplitr; · iapply hM; iexact HR
    iexact Hat
  iintro ⟨HO, Hat, -, Hpay⟩
  rw [wp_ret]
  imodintro
  iapply HQ
  isplitl [HO]; · iexists _; iexact HO
  isplitl [Hat] <;> iassumption

/-- Of `m` or more credits one has number at least `m - 1`. -/
theorem exists_late (S : Finset ℕ) (m : ℕ) (h : m < S.card) : ∃ j ∈ S, m ≤ j := by
  by_contra hn
  push Not at hn
  have : S ⊆ Finset.range m := fun j hj => Finset.mem_range.2 (hn j hj)
  exact absurd (Finset.card_le_card this) (by rw [Finset.card_range]; omega)

/-- The news of a credit of number at least `m` is the news of number `m`. -/
theorem freed_of (T : Finset ℕ) (m j : ℕ) (hj : j ∈ T) (hm : m ≤ j) (d : Dev nD) :
    bigSep T (fun k => bigSep (Finset.range (k + 1)) (freed (F := F) d)) ⊢ freed d m :=
  (bigSep_elim hj).trans (bigSep_elim (Finset.mem_range.2 (by omega)))

theorem rest_cred (T S : Finset ℕ) :
    bigSep (S \ T) (fun d => (Rd X).payload ((c : Thread nD τ), .reg credS) 0 d) = bigSep (S \ T) (fun k => bigSep (Finset.range (k + 1)) (freed (F := F) (rgt c))) :=
  bigSep_congr fun k _ => payload_cred X c k

theorem join_cred (T S : Finset ℕ) (h : T ⊆ S) (Φ : ℕ → sProp 𝕄) : iprop(bigSep T Φ ∗ bigSep (S \ T) Φ) ⊢ bigSep S Φ := by
  have e : bigSep (T ∪ (S \ T)) Φ = bigSep S Φ := by rw [Finset.union_sdiff_of_subset h]
  exact Entails.of_eq ((bigSep_union Finset.disjoint_sdiff).symm.trans e)

/-- The wait for credit number `m`: the right device's send `m` has left its slot. -/
theorem step_credit (m : ℕ) (hm : m < 55) (O : CellTallies nD τ sig ℕ)
    (hO : levs (F := F) ⊢ MayWait (c : Thread nD τ) (.reg credS) (2 * m + 7) O)
    (hO' : levs (F := F) ⊢ MayOwe (c : Thread nD τ) {((.reg credS : SemLoc sig), 2 * m + 7)} O) (Q : PUnit → sProp 𝕄) :
    iprop(recs X K J ∗ owesE c O ∗ credPos c m ∗ cred (tallyAt (credCell c) (2 * m + 7) 1))
      ⊢ iprop((owesE c O ∗ credPos c (m + 1) ∗ freed (rgt c) m -∗ Q ⟨⟩) -∗ wpc c (semWaitWord credS 1#32) Q) := by
  have hM : recs X K J ⊢ MayWait (c : Thread nD τ) (.reg credS) (2 * m + 7) O := (recs_lev X K J).trans hO
  have hM' : recs X K J ⊢ MayOwe (c : Thread nD τ) {((.reg credS : SemLoc sig), 2 * m + 7)} O := (recs_lev X K J).trans hO'
  have hR := recs_cell X K J c (.inr (.inr 0))
  unfold owesE credPos semWaitWord
  rw [if_pos hm]
  iintro ⟨#HR, ⟨%W, HO⟩, ⟨%T, %hT, Hat, HT⟩, Hc⟩ HQ
  by_cases h55 : m + 1 < 55
  · rw [if_pos h55]
    iapply (Rounds.wp_wait 𝒱₀ ER (Rd X) (c : Thread nD τ) none (κ := K (c, .inr (.inr 0))) (sm := .reg credS) (k' := 1)
      (wpE_semWait_eq 𝒱₀ (c : Thread nD τ) none Set.univ) (Set.mem_univ _) (cr := Finsupp.single (2 * m + 7) 1) (O := O) (W := W)
      {((.reg credS : SemLoc sig), 2 * m + 7)} (R := 0) (m := m) (T := T)
      (by rw [Util.total_single]) (image_single_subset _ _ _)) $$ [Hc HO Hat]
    · isplitr; · iapply hR; iexact HR
      isplitl [Hc]; · iexact Hc
      isplitl [HO]; · iexact HO
      isplitr; · iapply hM'; iexact HR
      iexact Hat
    iintro %S ⟨%hS, HO, Hat, Hpay⟩
    obtain ⟨h1, h2, h3⟩ := hS
    have hD : (Rd X).duties ((c : Thread nD τ), .reg credS) 0 = Finset.range 55 := duties_cred X c
    have hE : (Rd X).expect ((c : Thread nD τ), .reg credS) 0 = 55 := expect_cred X c
    rw [hD] at h2 h3
    rw [hE, Finset.card_sdiff_of_subset h2, Finset.card_range] at h3
    have hc := Finset.card_le_card h2
    rw [Finset.card_range] at hc
    obtain ⟨j, hj, hmj⟩ := exists_late S m (by omega)
    ihave Hpay := (Entails.of_eq (rest_cred X c T S)) $$ Hpay
    ihave HS := (join_cred T S h1 (fun k => bigSep (Finset.range (k + 1)) (freed (F := F) (rgt c)))) $$ [HT Hpay]
    · isplitl [HT] <;> iassumption
    icases HS with #HS
    rw [wp_ret]
    imodintro
    iapply HQ
    isplitl [HO]; · iexists _; iexact HO
    isplitl [Hat]
    · iexists S
      isplitr; · ipureintro; exact h2
      isplitl [Hat]; · iexact Hat
      iexact HS
    iapply (freed_of S m j hj hmj (rgt c)); iexact HS
  · rw [if_neg h55]
    have e : m = 54 := by omega
    subst e
    iapply (Rounds.wp_wait_rest_token 𝒱₀ ER (Rd X) (c : Thread nD τ) none (κ := K (c, .inr (.inr 0))) (sm := .reg credS) (k' := 1)
      (wpE_semWait_eq 𝒱₀ (c : Thread nD τ) none Set.univ) (Set.mem_univ _) (2 * 54 + 7) (O := O) (W := W) (R := 0) (m := 54) (T := T)
      (expect_cred X c).symm) $$ [Hc HO Hat]
    · isplitr; · iapply hR; iexact HR
      isplitl [Hc]; · iexact Hc
      isplitl [HO]; · iexact HO
      isplitr; · iapply hM; iexact HR
      iexact Hat
    iintro ⟨HO, Hat, -, Hpay⟩
    have hD : (Rd X).duties ((c : Thread nD τ), .reg credS) 0 = Finset.range 55 := duties_cred X c
    rw [hD]
    ihave Hpay := (Entails.of_eq (rest_cred X c T (Finset.range 55))) $$ Hpay
    ihave HS := (join_cred T (Finset.range 55) hT (fun k => bigSep (Finset.range (k + 1)) (freed (F := F) (rgt c)))) $$ [HT Hpay]
    · isplitl [HT] <;> iassumption
    rw [wp_ret]
    imodintro
    iapply HQ
    isplitl [HO]; · iexists _; iexact HO
    isplitl [Hat]; · iexact Hat
    iapply (freed_of (Finset.range 55) 54 54 (by decide) le_rfl (rgt c)); iexact HS

/-- The copy of hop `h` to the right: it takes the slot sent and the slot it lands in, and promises the landing. -/
theorem step_copy (h : ℕ) (hh : h < 62) (n : Dev nD) (hn : n = rgt c) (O : CellTallies nD τ sig ℕ)
    {hsc : (slotM (sl (h + 1)) : Memref sig (Dev.tc n : Thread nD τ).2.kind .vmem S48x1536 .bf16).view.ref.isScScratch = false}
    {hsrc : (slotM (sl h)).view.WordExact} {hdst : (slotM (sl (h + 1))).view.WordExact}
    {hsem : DmaTarget.Typed .vmem (.dma (recvS (sl (h + 1))))
      (.remote (Dev.tc n : Thread nD τ) (slotM (sl (h + 1)) : Memref sig .tc .vmem S48x1536 .bf16) (.dma (sendS (sl h))) hsc)}
    (Q : PUnit → sProp 𝕄) :
    iprop(recs X K J ∗ owesE c (O + tallyAt (recvCell (rgt c) (sl (h + 1))) (2 * h + 4) N)
        ∗ slotPts c (sl h) (X c h) ∗ slotAny (rgt c) (sl (h + 1))
        ∗ dutyTok ER (sendCell c (sl h)) (h / 8) 0 ∗ reached ER (sendCell c (sl h)) (h / 8)
        ∗ dutyTok ER (recvCell (rgt c) (sl (h + 1))) (h / 8) 0 ∗ reached ER (recvCell (rgt c) (sl (h + 1))) (h / 8))
      ⊢ iprop((owesE c O ∗ cred (tallyAt (sendCell c (sl h)) 0 N) -∗ Q ⟨⟩)
        -∗ wpc c (.op (.enqueueDma (slotM (sl h)) (.remote (Dev.tc n : Thread nD τ) (slotM (sl (h + 1))) (.dma (sendS (sl h))) hsc)
            (.dma (recvS (sl (h + 1)))) hsrc hdst hsem) .ret) Q) := by
  subst hn
  have hR := recs_cell X K J c (.inl (sl h))
  have hR' := recs_cell X K J (rgt c) (.inr (.inl (sl (h + 1))))
  unfold owesE slotAny Release.slot
  iintro ⟨#HR, ⟨%W, HO⟩, Hs, ⟨%fd, Hd⟩, Hts, #Hrs, Htr, #Hrr⟩ HQ
  unfold slotPts
  iapply (Rounds.wp_send_pointsTo 𝒱₀ ER (Rd X) (c : Thread nD τ) none (c' := (Dev.tc (rgt c) : Thread nD τ))
    (src := slotM (sl h)) (dst := slotM (sl (h + 1))) (sS := csem (.inl (sl h))) (sem := csem (.inr (.inl (sl (h + 1)))))
    (κ₁ := K (c, .inl (sl h))) (κ₂ := K (rgt c, .inr (.inl (sl (h + 1)))))
    (r₁ := h / 8) (r₂ := h / 8) (d₁ := 0) (d₂ := 0) (q := fullShare) (fs := bufOf c (X c h)) (fd := fd)
    (by rw [duties_send X c h hh]; exact Finset.mem_singleton_self _) (by rw [duties_recv X (rgt c) h hh]; exact Finset.mem_singleton_self _)
    (2 * h + 4) 0 N (slot_credit _) (amount_cell X c _ _ _) (amount_cell X (rgt c) _ _ _) O rfl (W := W)
    (by rw [payload_send, slotM_set]; exact slotAny_intro c (sl h) (bufOf c (X c h)))
    (by
      rw [payload_recv, slotM_set, lft_rgt]
      exact Entails.of_eq (pointsTo_congr (copy_slot c (rgt c) (sl h) (sl (h + 1)) (X c h) fd)))) $$ [HO Hs Hd Hts Htr]
  · isplitr; · iapply hR; iexact HR
    isplitr; · iapply hR'; iexact HR
    isplitl [Hs]; · rw [slotM_set]; iexact Hs
    isplitl [Hd]; · rw [slotM_set]; iexact Hd
    isplitl [HO]; · iexact HO
    isplitl [Hts]; · iexact Hts
    isplitr; · iexact Hrs
    isplitl [Htr]; · iexact Htr
    iexact Hrr
  iintro ⟨Hc, HO⟩
  rw [wp_ret]
  imodintro
  iapply HQ
  isplitl [HO]; · iexists _; iexact HO
  iexact Hc

/-! ### Loads and stores -/

/-- A load of a slot that shows `v` gives `v`; of a slot at any contents, something. -/
theorem step_loadSlot (s : Fin 8) (v : Chunk F) (Q : Chunk F → sProp 𝕄) :
    slotPts c s v ⊢ iprop((slotPts c s v -∗ Q v) -∗ wpc c (loadSlot s) Q) := by
  unfold slotPts loadSlot Prog.lift
  iintro H HQ
  iapply (wp_load_rect 𝒱₀ (c : Thread nD τ) none Set.univ (m := cM) (r := slotR s) (S := slotSet c s) (slotR_set c s).subset) $$ H
  iintro H
  rw [wp_ret, read_slot]
  imodintro
  iapply HQ; iexact H
theorem step_loadSlotAny (s : Fin 8) (Q : Chunk F → sProp 𝕄) :
    slotAny c s ⊢ iprop((∀ v, slotAny c s -∗ Q v) -∗ wpc c (loadSlot s) Q) := by
  unfold slotAny Release.slot loadSlot Prog.lift
  iintro ⟨%f, H⟩ HQ
  iapply (wp_load_rect 𝒱₀ (c : Thread nD τ) none Set.univ (m := cM) (r := slotR s) (S := slotSet c s) (slotR_set c s).subset) $$ H
  iintro H
  rw [wp_ret]
  imodintro
  iapply HQ; iexists f; iexact H
/-- A store of `w` into a slot leaves it showing `w`. -/
theorem step_storeSlot (s : Fin 8) (w : Chunk F) (Q : PUnit → sProp 𝕄) :
    slotAny c s ⊢ iprop((slotPts c s w -∗ Q ⟨⟩) -∗ wpc c (storeSlot s w) Q) := by
  have hw (f : Buf (Elt F) (cLoc c)) : (iprop(cLoc c ↦[slotSet c s]{fullShare} (cM.access (slotR s)).write (Elt F) f w Finset.univ) : sProp 𝕄) ⊢ slotPts c s w :=
    Entails.of_eq (pointsTo_congr (write_slot c s f w))
  unfold slotAny Release.slot storeSlot Prog.lift
  iintro ⟨%f, H⟩ HQ
  iapply (wp_store 𝒱₀ (c : Thread nD τ) none Set.univ (m := cM) (r := slotR s) (Mk := Finset.univ) (S := slotSet c s)
    ((View.setOn_univ _).trans (slotR_set c s)).subset) $$ H
  iintro H
  rw [wp_ret]
  imodintro
  iapply HQ; iapply (hw f); iexact H

/-- The result's buffer, holding `g`. -/
abbrev Out (F : FTy → Type) : Type := Vec F S1536x1536 .f32
def outPts (g : Out F) : sProp 𝕄 := iprop((c : Thread nD τ).loc cc0_stg2_0 ↦{fullShare} g)

/-- Its 48 rows from an offset on; those rows replaced. -/
def rowsAt (off : Fin 2 → Nat) (inb : ∀ a, off a + S48x1536.size a ≤ S1536x1536.size a) (g : Out F) : FVec F S48x1536 .f32 :=
  (oM.access (Rect.unit (s := S1536x1536) off S48x1536.size inb)).read (Elt F) g
def setRows (off : Fin 2 → Nat) (inb : ∀ a, off a + S48x1536.size a ≤ S1536x1536.size a) (g : Out F) (v : FVec F S48x1536 .f32) : Out F :=
  (oM.access (Rect.unit (s := S1536x1536) off S48x1536.size inb)).write (Elt F) g v Finset.univ

theorem step_loadRows (off : Fin 2 → Nat) (inb : ∀ a, off a + S48x1536.size a ≤ S1536x1536.size a) (g : Out F) (Q : Vec F S48x1536 .f32 → sProp 𝕄) :
    outPts c g ⊢ iprop((outPts c g -∗ Q (rowsAt off inb g)) -∗ wpc c (loadRows off inb) Q) := by
  unfold rowsAt outPts loadRows Prog.lift
  iintro H HQ
  iapply (wp_load_rect 𝒱₀ (c : Thread nD τ) none Set.univ (m := oM) (r := Rect.unit (s := S1536x1536) off S48x1536.size inb) (S := Finset.univ) (Finset.subset_univ _)) $$ H
  iintro H
  rw [wp_ret]
  imodintro
  iapply HQ; iexact H
theorem step_storeRows (off : Fin 2 → Nat) (inb : ∀ a, off a + S48x1536.size a ≤ S1536x1536.size a) (g : Out F) (v : FVec F S48x1536 .f32) (Q : PUnit → sProp 𝕄) :
    outPts c g ⊢ iprop((outPts c (setRows off inb g v) -∗ Q ⟨⟩) -∗ wpc c (storeRows off inb v) Q) := by
  unfold setRows outPts storeRows Prog.lift
  iintro H HQ
  iapply (wp_store 𝒱₀ (c : Thread nD τ) none Set.univ (m := oM) (r := Rect.unit (s := S1536x1536) off S48x1536.size inb) (Mk := Finset.univ) (S := Finset.univ) (Finset.subset_univ _)) $$ H
  iintro H
  rw [wp_ret]
  imodintro
  iapply HQ; iexact H

/-! ### The slots that change hands -/

/-- The news that a send has left its slot, and the one token to take it with, give the slot. -/
theorem slot_get (d : Dev nD) (i : ℕ) (hi : i < 55) :
    iprop(recs X K J ∗ freed d i ∗ writeTok ES (d, i) 1) ⊢ (|={Set.univ}=> slotAny d (sl i) : sProp 𝕄) := by
  have h := recs_slot X K J d i hi
  unfold freed
  iintro ⟨#HR, ⟨#Hf, -⟩, Hw⟩
  iapply (Release.slot_take ES (Set.mem_univ (J (d, i))) (k := (d, i)) (S := slotAny d (sl i)) 1)
  isplitr; · iapply h; iexact HR
  isplitr; · iexact Hf
  iexact Hw

/-- A slot given back makes the news. -/
theorem slot_put (i : ℕ) (hi : i < 55) :
    iprop(recs X K J ∗ readerAt ES (c, i) 0 ∗ slotAny c (sl i)) ⊢ (|={Set.univ}=> released ES (c, i) 1 : sProp 𝕄) := by
  have h := recs_slot X K J c i hi
  iintro ⟨#HR, Hr, Hs⟩
  imod (Release.slot_release ES (Set.mem_univ (J (c, i))) (k := (c, i)) (S := slotAny c (sl i)) (Release.slot_slot_false (slotSet_nonempty c (sl i))) 0) $$ [Hr Hs] with ⟨-, Hrel⟩
  · isplitr; · iapply h; iexact HR
    isplitl [Hr] <;> iassumption
  imodintro
  iexact Hrel

end Steps

end Cert.RingProof

end
-- ==== Proof.Comm.lean ====
/-
  What a device holds before hop `h`, and the communication of one hop, at a symbolic device and hop number.
-/
module

public import proofs.«01_k».proof.Proof.Hop

@[expose] public section

noncomputable section

namespace Cert.RingProof

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Release

variable {F : FTy → Type} [FloatOps F]
local notation "𝕄" => MT nD τ sig ℕ (Elt F) ℕ UU ℕ

variable (X : Dev nD → ℕ → Chunk F)

/-! ## The communication of one hop

What a device holds before hop `h`, all of it cut by the hop's number. -/

/-- For the hops still to come: the duties of the landing it makes on the right and of its own send, and the credit for
    the landing the left makes here. -/
def hopToks (c : Dev nD) (h : ℕ) : sProp 𝕄 := bigSep (Finset.Ico h 62) (fun i =>
  iprop(dutyTok ER (recvCell (rgt c) (sl (i + 1))) (i / 8) 0 ∗ dutyTok ER (sendCell c (sl i)) (i / 8) 0 ∗ cred (tallyAt (recvCell c (sl (i + 1))) (2 * i + 4) N)))
/-- For the credits still to give, from number `w` on: their duties, and the right to give back the slot of send `k`. -/
def credOut (c : Dev nD) (w : ℕ) : sProp 𝕄 := bigSep (Finset.Ico w 55) (fun k => iprop(dutyTok ER (credCell (lft c)) 0 k ∗ readerAt ES (c, k) 0))
/-- For the credits still to take, from number `m` on: the token that takes the right device's slot, and the credit. -/
def credIn (c : Dev nD) (m : ℕ) : sProp 𝕄 := bigSep (Finset.Ico m 55) (fun k => iprop(writeTok ES (rgt c, k) 1 ∗ cred (tallyAt (credCell c) (2 * k + 7) 1)))
/-- The right device's slots that hops `h … 6` fill without a credit. -/
def first (c : Dev nD) (h : ℕ) : sProp 𝕄 := bigSep (Finset.Ico h 7) (fun i => slotAny (F := F) (rgt c) (sl (i + 1)))
/-- The sends `w … h - 1`, started and not yet waited for. -/
def pend (c : Dev nD) (w h : ℕ) : sProp 𝕄 := bigSep (Finset.Ico w h) (fun i => cred (tallyAt (sendCell c (sl i)) 0 N))
/-- The slots of the last sends waited for, which no later copy needs. -/
def kept (c : Dev nD) (w : ℕ) : sProp 𝕄 := bigSep (Finset.Ico 55 w) (fun i => slotAny (F := F) c (sl i))
/-- What it can say of its own sends waited for. -/
def news (c : Dev nD) (w : ℕ) : sProp 𝕄 := bigSep (Finset.range (min w 55)) (freed (F := F) c)

instance news_persistent (c : Dev nD) (w : ℕ) : BI.Persistent (news (F := F) c w) := by unfold news; infer_instance

def link (c : Dev nD) (h : ℕ) : sProp 𝕄 :=
  iprop(owesE c (dues c h (h - 2)) ∗ recvPos c h ∗ sendPos c (h - 2) ∗ credPos c (h - 7) ∗ hopToks c h ∗ credOut c (h - 2) ∗ credIn c (h - 7)
    ∗ first c h ∗ pend c (h - 2) h ∗ kept c (h - 2) ∗ news c (h - 2))

section
variable (c : Dev nD)

theorem hopToks_step {h : ℕ} (hh : h < 62) : hopToks (F := F) c h
    ⊢ iprop((dutyTok ER (recvCell (rgt c) (sl (h + 1))) (h / 8) 0 ∗ dutyTok ER (sendCell c (sl h)) (h / 8) 0 ∗ cred (tallyAt (recvCell c (sl (h + 1))) (2 * h + 4) N))
      ∗ hopToks c (h + 1)) := Entails.of_eq (bigSep_Ico_succ_bot hh _)
theorem credOut_step {w : ℕ} (hw : w < 55) : credOut (F := F) c w ⊢ iprop((dutyTok ER (credCell (lft c)) 0 w ∗ readerAt ES (c, w) 0) ∗ credOut c (w + 1)) :=
  Entails.of_eq (bigSep_Ico_succ_bot hw _)
theorem credOut_over {w : ℕ} (hw : 55 ≤ w) : credOut (F := F) c w = credOut c (w + 1) := by
  unfold credOut; rw [Finset.Ico_eq_empty_of_le hw, Finset.Ico_eq_empty_of_le (Nat.le_succ_of_le hw)]
theorem credIn_step {m : ℕ} (hm : m < 55) : credIn (F := F) c m ⊢ iprop((writeTok ES (rgt c, m) 1 ∗ cred (tallyAt (credCell c) (2 * m + 7) 1)) ∗ credIn c (m + 1)) :=
  Entails.of_eq (bigSep_Ico_succ_bot hm _)
theorem first_step {h : ℕ} (hh : h < 7) : first (F := F) c h ⊢ iprop(slotAny (rgt c) (sl (h + 1)) ∗ first c (h + 1)) := Entails.of_eq (bigSep_Ico_succ_bot hh _)
theorem first_over {h : ℕ} (hh : 7 ≤ h) : first (F := F) c h = first c (h + 1) := by
  unfold first; rw [Finset.Ico_eq_empty_of_le hh, Finset.Ico_eq_empty_of_le (Nat.le_succ_of_le hh)]
theorem pend_step {w h : ℕ} (hw : w < h) : pend (F := F) c w h ⊢ iprop(cred (tallyAt (sendCell c (sl w)) 0 N) ∗ pend c (w + 1) h) := Entails.of_eq (bigSep_Ico_succ_bot hw _)
theorem pend_push {w h : ℕ} (hw : w ≤ h) : iprop(cred (tallyAt (sendCell c (sl h)) 0 N) ∗ pend (F := F) c w h) ⊢ pend c w (h + 1) :=
  Entails.of_eq (bigSep_Ico_succ_top hw (fun i => cred (tallyAt (sendCell c (sl i)) 0 N))).symm
theorem kept_push {w : ℕ} (hw : 55 ≤ w) : iprop(slotAny (F := F) c (sl w) ∗ kept c w) ⊢ kept c (w + 1) :=
  Entails.of_eq (bigSep_Ico_succ_top hw (fun i => slotAny (F := F) c (sl i))).symm
theorem kept_over {w : ℕ} (hw : w < 55) : kept (F := F) c w = kept c (w + 1) := by
  unfold kept; rw [Finset.Ico_eq_empty_of_le hw.le, Finset.Ico_eq_empty_of_le hw]
theorem news_push {w : ℕ} (hw : w < 55) : iprop(freed (F := F) c w ∗ news c w) ⊢ news c (w + 1) := by
  unfold news
  rw [Nat.min_eq_left hw.le, Nat.min_eq_left (Nat.succ_le_of_lt hw)]
  exact Entails.of_eq (bigSep_range_succ _ _).symm
theorem news_over {w : ℕ} (hw : 55 ≤ w) : news (F := F) c w = news c (w + 1) := by
  unfold news; rw [Nat.min_eq_right hw, Nat.min_eq_right (Nat.le_succ_of_le hw)]

variable (K : Dev nD × Key → ℕ) (J : Dev nD × ℕ → ℕ)

theorem wpc_pure (Q : PUnit → sProp 𝕄) : Q ⟨⟩ ⊢ wpc c (pure ⟨⟩) Q := by
  rw [wpc, Prog.pure_eq_ret, wp_ret]
  iintro H
  imodintro
  iexact H

/-- Taking the credit: the slot of the right device that hop `h` fills, and that its receive cell is at the hop's round. -/
theorem run_takeCredit (h : ℕ) (hh : h < 62) (Q : PUnit → sProp 𝕄) :
    iprop(recs X K J ∗ owesE c (dues c h (h - 2)) ∗ credPos c (h - 7) ∗ credIn c (h - 7) ∗ first c h)
      ⊢ iprop((owesE c (dues c h (h - 2)) ∗ credPos c (h + 1 - 7) ∗ credIn c (h + 1 - 7) ∗ first c (h + 1)
          ∗ slotAny (rgt c) (sl (h + 1)) ∗ reached ER (recvCell (rgt c) (sl (h + 1))) (h / 8) -∗ Q ⟨⟩)
        -∗ wpc c (takeCredit h) Q) := by
  unfold takeCredit
  by_cases h7 : 7 ≤ h
  · obtain ⟨m, rfl⟩ : ∃ m, h = m + 7 := ⟨h - 7, by omega⟩
    rw [if_pos h7, first_over c h7, show m + 7 - 7 = m by omega, show m + 7 + 1 - 7 = m + 1 by omega, show sl (m + 7 + 1) = sl m from Fin.ext (by show (m + 7 + 1) % 8 = m % 8; omega)]
    iintro ⟨#HR, HO, Hp, Hin, Hf⟩ HQ
    ihave Hin := (credIn_step c (show m < 55 by omega)) $$ Hin
    icases Hin with ⟨⟨Hw, Hc⟩, Hin⟩
    iapply (wp_fupd frame (wpE (defs₀ (F := F)) 𝒱₀ (c : Thread nD τ) none) Set.univ (semWaitWord credS 1#32) Q)
    iapply (step_credit X K J c m (by omega) (dues c (m + 7) (m + 7 - 2)) (mayWait_dues c _ (by omega) (by omega) (by omega))
      (mayWait_dues c _ (by omega) (by omega) (by omega)) (fun a => iprop(|={Set.univ}=> Q a))) $$ [HO Hp Hc]
    · isplitr; · iexact HR
      isplitl [HO]; · iexact HO
      isplitl [Hp] <;> iassumption
    iintro ⟨HO, Hp, #Hfr⟩
    imod (slot_get X K J (rgt c) m (by omega)) $$ [Hw] with Hs
    · isplitr; · iexact HR
      isplitr; · iexact Hfr
      iexact Hw
    imodintro
    iapply HQ
    isplitl [HO]; · iexact HO
    isplitl [Hp]; · iexact Hp
    isplitl [Hin]; · iexact Hin
    isplitl [Hf]; · iexact Hf
    isplitl [Hs]; · iexact Hs
    unfold freed
    icases Hfr with ⟨-, Hr⟩
    iexact Hr
  · have hr := recs_reached X K J (rgt c) (.inr (.inl (sl (h + 1))))
    rw [if_neg h7, show h - 7 = 0 by omega, show h + 1 - 7 = 0 by omega, show h / 8 = 0 by omega]
    iintro ⟨#HR, HO, Hp, Hin, Hf⟩ HQ
    ihave Hf := (first_step c (show h < 7 by omega)) $$ Hf
    icases Hf with ⟨Hs, Hf⟩
    iapply (wpc_pure c Q)
    iapply HQ
    isplitl [HO]; · iexact HO
    isplitl [Hp]; · iexact Hp
    isplitl [Hin]; · iexact Hin
    isplitl [Hf]; · iexact Hf
    isplitl [Hs]; · iexact Hs
    iapply hr; iexact HR

/-- Waiting for send `h - 2`: its slot back, from hop 2 on. -/
theorem run_freeSlot (h : ℕ) (hh : h < 62) (Q : PUnit → sProp 𝕄) :
    iprop(recs X K J ∗ owesE c (dues c h (h - 2)) ∗ sendPos c (h - 2) ∗ pend c (h - 2) h)
      ⊢ iprop((owesE c (dues c h (h - 2)) ∗ sendPos c (h + 1 - 2) ∗ pend c (h + 1 - 2) h ∗ (if 2 ≤ h then slotAny c (sl (h - 2)) else iprop(emp)) -∗ Q ⟨⟩)
        -∗ wpc c (freeSlot h) Q) := by
  unfold freeSlot
  by_cases h2 : 2 ≤ h
  · obtain ⟨w, rfl⟩ : ∃ w, h = w + 2 := ⟨h - 2, by omega⟩
    rw [if_pos h2, if_pos h2, show w + 2 - 2 = w by omega, show w + 2 + 1 - 2 = w + 1 by omega]
    iintro ⟨#HR, HO, Hp, Hpd⟩ HQ
    ihave Hpd := (pend_step c (show w < w + 2 by omega)) $$ Hpd
    icases Hpd with ⟨Hc, Hpd⟩
    iapply (step_waitSend X K J c w (by omega) (dues c (w + 2) w) (mayWait_dues c _ (by omega) (by omega) (by omega)) Q) $$ [HO Hp Hc]
    · isplitr; · iexact HR
      isplitl [HO]; · iexact HO
      isplitl [Hp] <;> iassumption
    iintro ⟨HO, Hp, Hs⟩
    iapply HQ
    isplitl [HO]; · iexact HO
    isplitl [Hp]; · iexact Hp
    isplitl [Hpd] <;> iassumption
  · rw [if_neg h2, if_neg h2, show h - 2 = 0 by omega, show h + 1 - 2 = 0 by omega]
    iintro ⟨#HR, HO, Hp, Hpd⟩ HQ
    iapply (wpc_pure c Q)
    iapply HQ
    isplitl [HO]; · iexact HO
    isplitl [Hp]; · iexact Hp
    isplitl [Hpd]; · iexact Hpd
    iempintro

/-- The receive cell of the slot send `w` left, when that send has been waited for. -/
theorem recvPos_reached (w : ℕ) : recvPos (F := F) c (w + 2) ⊢ iprop(recvPos c (w + 2) ∗ reached ER (recvCell c (sl w)) ((w + 7) / 8)) := by
  unfold recvPos
  iintro H
  ihave H := (take_one (fun s r => posn (F := F) (recvCell c s) r) (rc (w + 2)) (rc (w + 2)) (sl w) (fun _ _ => rfl)) $$ H
  icases H with ⟨Hp, Hback⟩
  unfold posn
  icases Hp with ⟨Hat, #Hr⟩
  isplitl [Hat Hback]
  · iapply Hback; isplitl [Hat]; · iexact Hat
    iexact Hr
  rw [rc_freed]
  iexact Hr

/-- Giving the credit for send `h - 2`, or keeping its slot. -/
theorem run_giveCredit (h : ℕ) (hh : h < 62) (Q : PUnit → sProp 𝕄) :
    iprop(recs X K J ∗ owesE c (dues c h (h - 2)) ∗ recvPos c h ∗ credOut c (h - 2) ∗ kept c (h - 2) ∗ news c (h - 2)
        ∗ (if 2 ≤ h then slotAny c (sl (h - 2)) else iprop(emp)))
      ⊢ iprop((owesE c (dues c h (h + 1 - 2)) ∗ recvPos c h ∗ credOut c (h + 1 - 2) ∗ kept c (h + 1 - 2) ∗ news c (h + 1 - 2) -∗ Q ⟨⟩)
        -∗ wpc c (giveCredit c h) Q) := by
  unfold giveCredit
  by_cases h2 : 2 ≤ h
  · obtain ⟨w, rfl⟩ : ∃ w, h = w + 2 := ⟨h - 2, by omega⟩
    rw [if_pos h2, show w + 2 - 2 = w by omega, show w + 2 + 1 - 2 = w + 1 by omega]
    by_cases hw : w < 55
    · rw [if_pos ⟨h2, by omega⟩, dues_credit c (w + 2) hw, leftD_eq, ← kept_over c hw]
      have hnews : news c (w + 1) ⊢ (Rd X).payload (credCell (lft c)) 0 w := by
        rw [payload_cred, rgt_lft]
        unfold news
        rw [Nat.min_eq_left (Nat.succ_le_of_lt hw)]
      iintro ⟨#HR, HO, Hp, Hout, Hk, #Hn, Hs⟩ HQ
      ihave Hout := (credOut_step c hw) $$ Hout
      icases Hout with ⟨⟨Ht, Hr⟩, Hout⟩
      imod (slot_put X K J c w hw) $$ [Hr Hs] with #Hrel
      · isplitr; · iexact HR
        isplitl [Hr] <;> iassumption
      ihave Hp := (recvPos_reached c w) $$ Hp
      icases Hp with ⟨Hp, #Hrc⟩
      ihave #Hn' := (news_push c hw) $$ []
      · isplitr
        · unfold freed
          isplitr; · iexact Hrel
          iexact Hrc
        iexact Hn
      iapply (step_signal X K J c (lft c) 0 credS rfl w (2 * w + 7) (by rw [duties_cred]; exact Finset.mem_range.2 hw) (dues c (w + 2) (w + 1)) Q) $$ [HO Ht]
      · isplitr; · iexact HR
        isplitl [HO]; · iexact HO
        isplitl [Ht]; · iexact Ht
        iapply hnews; iexact Hn'
      iintro HO
      iapply HQ
      isplitl [HO]; · iexact HO
      isplitl [Hp]; · iexact Hp
      isplitl [Hout]; · iexact Hout
      isplitl [Hk]; · iexact Hk
      iexact Hn'
    · have hw' : 55 ≤ w := by omega
      rw [if_neg (by omega), dues_credit_over c (w + 2) hw', dues_credit_over c (w + 2) (Nat.le_succ_of_le hw'), ← credOut_over c hw', ← news_over c hw']
      iintro ⟨#HR, HO, Hp, Hout, Hk, #Hn, Hs⟩ HQ
      iapply (wpc_pure c Q)
      iapply HQ
      isplitl [HO]; · iexact HO
      isplitl [Hp]; · iexact Hp
      isplitl [Hout]; · iexact Hout
      isplitl [Hk Hs]
      · iapply (kept_push c hw'); isplitl [Hs] <;> iassumption
      iexact Hn
  · rw [if_neg h2, if_neg (fun e => h2 e.1), show h - 2 = 0 by omega, show h + 1 - 2 = 0 by omega]
    iintro ⟨#HR, HO, Hp, Hout, Hk, #Hn, -⟩ HQ
    iapply (wpc_pure c Q)
    iapply HQ
    isplitl [HO]; · iexact HO
    isplitl [Hp]; · iexact Hp
    isplitl [Hout]; · iexact Hout
    isplitl [Hk]; · iexact Hk
    iexact Hn

/-- The send cell of hop `h`, after the send waits made before it. -/
theorem sendPos_reached (h : ℕ) : sendPos (F := F) c (h + 1 - 2) ⊢ iprop(sendPos c (h + 1 - 2) ∗ reached ER (sendCell c (sl h)) (h / 8)) := by
  unfold sendPos
  iintro H
  ihave H := (take_one (fun s r => posn (F := F) (sendCell c s) r) (sc (h + 1 - 2)) (sc (h + 1 - 2)) (sl h) (fun _ _ => rfl)) $$ H
  icases H with ⟨Hp, Hback⟩
  unfold posn
  icases Hp with ⟨Hat, #Hr⟩
  isplitl [Hat Hback]
  · iapply Hback; isplitl [Hat]; · iexact Hat
    iexact Hr
  rw [sc_hop]
  iexact Hr

/-- The copy of hop `h`. -/
theorem run_startCopy (h : ℕ) (hh : h < 62) (O : CellTallies nD τ sig ℕ) (Q : PUnit → sProp 𝕄) :
    iprop(recs X K J ∗ owesE c (O + tallyAt (recvCell (rgt c) (sl (h + 1))) (2 * h + 4) N)
        ∗ slotPts c (sl h) (X c h) ∗ slotAny (rgt c) (sl (h + 1))
        ∗ dutyTok ER (sendCell c (sl h)) (h / 8) 0 ∗ reached ER (sendCell c (sl h)) (h / 8)
        ∗ dutyTok ER (recvCell (rgt c) (sl (h + 1))) (h / 8) 0 ∗ reached ER (recvCell (rgt c) (sl (h + 1))) (h / 8))
      ⊢ iprop((owesE c O ∗ cred (tallyAt (sendCell c (sl h)) 0 N) -∗ Q ⟨⟩) -∗ wpc c (startCopy c h) Q) := by
  unfold startCopy Prog.lift
  exact step_copy X K J c h hh (rightD c) (rightD_eq c) O Q

/-- The communication of hop `h`: the slot to forward becomes what the left device forwarded, one slot on. -/
theorem run_comm (h : ℕ) (hh : h < 62) (Q : PUnit → sProp 𝕄) :
    iprop(recs X K J ∗ link c h ∗ slotPts c (sl h) (X c h))
      ⊢ iprop((link c (h + 1) ∗ slotPts c (sl (h + 1)) (X (lft c) h) -∗ Q ⟨⟩) -∗ wpc c (comm c h) Q) := by
  unfold comm link
  simp only [wp_bind]
  iintro ⟨#HR, ⟨HO, Hrp, Hsp, Hcp, Ht, Hout, Hin, Hf, Hpd, Hk, Hn⟩, Hx⟩ HQ
  iapply (run_takeCredit X c K J h hh _) $$ [HO Hcp Hin Hf]
  · isplitr; · iexact HR
    isplitl [HO]; · iexact HO
    isplitl [Hcp]; · iexact Hcp
    isplitl [Hin] <;> iassumption
  iintro ⟨HO, Hcp, Hin, Hf, Hland, Hrr⟩
  iapply (run_freeSlot X c K J h hh _) $$ [HO Hsp Hpd]
  · isplitr; · iexact HR
    isplitl [HO]; · iexact HO
    isplitl [Hsp] <;> iassumption
  iintro ⟨HO, Hsp, Hpd, Hs⟩
  iapply (run_giveCredit X c K J h hh _) $$ [HO Hrp Hout Hk Hn Hs]
  · isplitr; · iexact HR
    isplitl [HO]; · iexact HO
    isplitl [Hrp]; · iexact Hrp
    isplitl [Hout]; · iexact Hout
    isplitl [Hk]; · iexact Hk
    isplitl [Hn] <;> iassumption
  iintro ⟨HO, Hrp, Hout, Hk, Hn⟩
  ihave Ht := (hopToks_step c hh) $$ Ht
  icases Ht with ⟨⟨Htr, Hts, Hcr⟩, Ht⟩
  ihave Hsp := (sendPos_reached c h) $$ Hsp
  icases Hsp with ⟨Hsp, Hrs⟩
  rw [dues_hop c (h + 1 - 2) hh]
  iapply (run_startCopy X c K J h hh (dues c (h + 1) (h + 1 - 2)) _) $$ [HO Hx Hland Hts Hrs Htr Hrr]
  · isplitr; · iexact HR
    isplitl [HO]; · iexact HO
    isplitl [Hx]; · iexact Hx
    isplitl [Hland]; · iexact Hland
    isplitl [Hts]; · iexact Hts
    isplitl [Hrs]; · iexact Hrs
    isplitl [Htr] <;> iassumption
  iintro ⟨HO, Hc⟩
  ihave Hpd := (pend_push c (w := h + 1 - 2) (h := h) (by omega)) $$ [Hc Hpd]
  · isplitl [Hc] <;> iassumption
  iapply (step_waitRecv X K J c h hh (dues c (h + 1) (h + 1 - 2)) (mayWait_dues c _ (by omega) (by omega) (by omega)) _) $$ [HO Hrp Hcr]
  · isplitr; · iexact HR
    isplitl [HO]; · iexact HO
    isplitl [Hrp] <;> iassumption
  iintro ⟨HO, Hrp, Hx⟩
  iapply HQ
  isplitr [Hx]
  · isplitl [HO]; · iexact HO
    isplitl [Hrp]; · iexact Hrp
    isplitl [Hsp]; · iexact Hsp
    isplitl [Hcp]; · iexact Hcp
    isplitl [Ht]; · iexact Ht
    isplitl [Hout]; · iexact Hout
    isplitl [Hin]; · iexact Hin
    isplitl [Hf]; · iexact Hf
    isplitl [Hpd]; · iexact Hpd
    isplitl [Hk] <;> iassumption
  iexact Hx

end

end Cert.RingProof

end
-- ==== Proof.Body.lean ====
/-
  The whole body at a symbolic device: the contents of the slots and of the result, hop by hop, and the run.
-/
module

public import proofs.«01_k».proof.Proof.Comm

@[expose] public section

noncomputable section

namespace Cert.RingProof

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Release

variable {F : FTy → Type} [FloatOps F]
local notation "𝕄" => MT nD τ sig ℕ (Elt F) ℕ UU ℕ

/-! ## Contents

`P c` is device `c`'s local product. -/

variable (P : Dev nD → Out F)

/-- The 48 rows of a device's result that hop `h` of the first phase adds to, and that hop `31 + t` of the second writes. -/
abbrev rowsRed (c : Dev nD) (h : ℕ) (g : Out F) : FVec F S48x1536 .f32 := rowsAt (k0_off2 c (BitVec.ofNat 32 (r31 h).val)) (k0_off2_inb c (r31 h)) g
abbrev setRed (c : Dev nD) (h : ℕ) (g : Out F) (v : FVec F S48x1536 .f32) : Out F := setRows (k0_off2 c (BitVec.ofNat 32 (r31 h).val)) (k0_off2_inb c (r31 h)) g v
abbrev setGat (c : Dev nD) (t : ℕ) (g : Out F) (v : FVec F S48x1536 .f32) : Out F := setRows (k0_off3 c (BitVec.ofNat 32 (r31 t).val)) (k0_off3_inb c (r31 t)) g v

/-- What device `c` forwards at hop `h`: its own rows first; then what arrived from the left, with its own rows added in
    the first phase, as it is in the second. -/
def chunkAt : ℕ → Dev nD → Chunk F
  | 0, c => k0_pay2 (rowsAt (k0_off1 c) (k0_off1_inb c) (P c))
  | h + 1, c => if h < 31 then k0_pay3 (chunkAt h (lft c)) (rowsRed c h (P c)) else chunkAt h (lft c)
def XP (c : Dev nD) (h : ℕ) : Chunk F := chunkAt P h c

/-- The result of device `c` before hop `h`: its product; from hop 31 on the finished sums are written to it. -/
def outAt (c : Dev nD) : ℕ → Out F
  | 0 => P c
  | h + 1 => if h < 30 then outAt c h
      else if h = 30 then setRed c h (outAt c h) (k0_pay4 (XP P (lft c) h) (rowsRed c h (outAt c h)))
      else setGat c (h - 31) (outAt c h) (k0_pay43 (XP P (lft c) h))

theorem outAt_early (c : Dev nD) (h : ℕ) (hh : h ≤ 30) : outAt P c h = P c := by
  induction h with
  | zero => rfl
  | succ h ih => rw [outAt, if_pos (by omega), ih (by omega)]

section
variable (c : Dev nD) (K : Dev nD × Key → ℕ) (J : Dev nD × ℕ → ℕ)

/-- What the device holds before hop `h`. -/
def hopSt (h : ℕ) : sProp 𝕄 := iprop(link c h ∗ slotPts c (sl h) (XP P c h) ∗ outPts c (outAt P c h))

/-- The write of the finished rows at the last hop of the first phase; nothing at the other hops. -/
theorem run_lastRows (h : ℕ) (hh : h < 31) (v : Chunk F) (hv : v = XP P (lft c) h) (Q : PUnit → sProp 𝕄) :
    outPts c (outAt P c h) ⊢ iprop((outPts c (outAt P c (h + 1)) -∗ Q ⟨⟩) -∗ wpc c (lastRows c h v (rowsRed c h (outAt P c h))) Q) := by
  unfold lastRows
  by_cases h30 : h = 30
  · have e : outAt P c (h + 1) = setRed c h (outAt P c h) (k0_pay4 v (rowsRed c h (outAt P c h))) := by
      rw [outAt, if_neg (by omega), if_pos h30, hv]
    rw [if_pos h30, e, wpc, wp_bind]
    generalize outAt P c h = g
    iintro Ho HQ
    iapply (step_loadRows c _ _ g _) $$ Ho
    iintro Ho
    iapply (step_storeRows c _ _ g _ _) $$ Ho
    iintro Ho
    iapply HQ
    iexact Ho
  · have e : outAt P c (h + 1) = outAt P c h := by rw [outAt, if_pos (by omega)]
    rw [if_neg h30, e]
    iintro Ho HQ
    iapply (wpc_pure c Q)
    iapply HQ
    iexact Ho

/-- One hop of the first phase. -/
theorem run_redHop (h : ℕ) (hh : h < 31) (Q : PUnit → sProp 𝕄) :
    iprop(recs (XP P) K J ∗ hopSt P c h) ⊢ iprop((hopSt P c (h + 1) -∗ Q ⟨⟩) -∗ wpc c (redHop c h) Q) := by
  have eX : XP P c (h + 1) = k0_pay3 (XP P (lft c) h) (rowsRed c h (outAt P c h)) := by
    rw [outAt_early P c h (by omega)]
    exact if_pos hh
  unfold redHop hopSt
  rw [wpc, eX]
  simp only [wp_bind]
  iintro ⟨#HR, Hl, Hs, Ho⟩ HQ
  iapply (run_comm (XP P) c K J h (by omega) _) $$ [Hl Hs]
  · isplitr; · iexact HR
    isplitl [Hl] <;> iassumption
  iintro ⟨Hl, Hs⟩
  iapply (step_loadSlot c _ (XP P (lft c) h) _) $$ Hs
  iintro Hs
  iapply (step_loadRows c _ _ (outAt P c h) _) $$ Ho
  iintro Ho
  iapply (step_loadSlot c _ (XP P (lft c) h) _) $$ Hs
  iintro Hs
  ihave Hs := (slotPts_any c _ _) $$ Hs
  iapply (step_storeSlot c _ _ _) $$ Hs
  iintro Hs
  iapply (run_lastRows P c h hh _ rfl Q) $$ Ho
  iintro Ho
  iapply HQ
  isplitl [Hl]; · iexact Hl
  isplitl [Hs] <;> iassumption

/-- One hop of the second phase. -/
theorem run_gatHop (t : ℕ) (ht : t < 31) (Q : PUnit → sProp 𝕄) :
    iprop(recs (XP P) K J ∗ hopSt P c (31 + t)) ⊢ iprop((hopSt P c (31 + t + 1) -∗ Q ⟨⟩) -∗ wpc c (gatHop c t) Q) := by
  have eX : XP P c (31 + t + 1) = XP P (lft c) (31 + t) := if_neg (by omega)
  have eO : outAt P c (31 + t + 1) = setGat c t (outAt P c (31 + t)) (k0_pay43 (XP P (lft c) (31 + t))) := by
    rw [outAt, if_neg (by omega), if_neg (by omega), show 31 + t - 31 = t by omega]
  unfold gatHop hopSt
  rw [wpc, eX, eO]
  simp only [wp_bind]
  iintro ⟨#HR, Hl, Hs, Ho⟩ HQ
  iapply (run_comm (XP P) c K J (31 + t) (by omega) _) $$ [Hl Hs]
  · isplitr; · iexact HR
    isplitl [Hl] <;> iassumption
  iintro ⟨Hl, Hs⟩
  iapply (step_loadSlot c _ (XP P (lft c) (31 + t)) _) $$ Hs
  iintro Hs
  iapply (step_loadRows c _ _ (outAt P c (31 + t)) _) $$ Ho
  iintro Ho
  iapply (step_storeRows c _ _ (outAt P c (31 + t)) _ _) $$ Ho
  iintro Ho
  iapply HQ
  isplitl [Hl]; · iexact Hl
  isplitl [Hs] <;> iassumption

/-- The first phase, and the second, by induction on the hops left. -/
theorem run_redHops (n h : ℕ) (hn : h + n ≤ 31) (Q : PUnit → sProp 𝕄) :
    iprop(recs (XP P) K J ∗ hopSt P c h) ⊢ iprop((hopSt P c (h + n) -∗ Q ⟨⟩) -∗ wpc c (redHops c h n) Q) := by
  induction n generalizing h with
  | zero =>
    unfold redHops
    iintro ⟨-, H⟩ HQ
    iapply (wpc_pure c Q)
    iapply HQ
    iexact H
  | succ n ih =>
    have e : h + (n + 1) = h + 1 + n := by omega
    unfold redHops
    rw [wpc, wp_bind, e]
    iintro ⟨#HR, H⟩ HQ
    iapply (run_redHop P c K J h (by omega) _) $$ [H]
    · isplitr <;> iassumption
    iintro H
    iapply (ih (h + 1) (by omega)) $$ [H]
    · isplitr <;> iassumption
    iexact HQ
theorem run_gatHops (n t : ℕ) (hn : t + n ≤ 31) (Q : PUnit → sProp 𝕄) :
    iprop(recs (XP P) K J ∗ hopSt P c (31 + t)) ⊢ iprop((hopSt P c (31 + (t + n)) -∗ Q ⟨⟩) -∗ wpc c (gatHops c t n) Q) := by
  induction n generalizing t with
  | zero =>
    unfold gatHops
    iintro ⟨-, H⟩ HQ
    iapply (wpc_pure c Q)
    iapply HQ
    iexact H
  | succ n ih =>
    have e : t + (n + 1) = t + 1 + n := by omega
    unfold gatHops
    rw [wpc, wp_bind, e]
    iintro ⟨#HR, H⟩ HQ
    iapply (run_gatHop P c K J t (by omega) _) $$ [H]
    · isplitr <;> iassumption
    iintro H
    iapply (ih (t + 1) (by omega)) $$ [H]
    · isplitr <;> iassumption
    iexact HQ

end

end Cert.RingProof

end
-- ==== Proof.Ends.lean ====
/-
  The two ends of the body at a symbolic device — entry barrier, product and first slot; last send waits and exit
  barrier, after which every cell is closed at zero — and the body from one to the other.
-/
module

public import proofs.«01_k».proof.Proof.Body

@[expose] public section

noncomputable section

namespace Cert.RingProof

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Release

variable {F : FTy → Type} [FloatOps F]
local notation "𝕄" => MT nD τ sig ℕ (Elt F) ℕ UU ℕ

/-- The eight slots: slot 0 and the seven the first hops fill; -/
theorem slots_split (Φ : Fin 8 → sProp 𝕄) : bigSep Finset.univ Φ = iprop(Φ 0 ∗ bigSep (Finset.Ico 0 7) (fun i => Φ (sl (i + 1)))) := by
  rw [bigSep_univ_eq_bigSepL [0, 1, 2, 3, 4, 5, 6, 7] (by decide) (by decide), bigSep_eq_bigSepL_of_eq [0, 1, 2, 3, 4, 5, 6] (by decide) (by decide)]
  rfl
/-- the slots the last eight copies leave. -/
theorem slots_last (Φ : Fin 8 → sProp 𝕄) : bigSep (Finset.Ico 55 63) (fun i => Φ (sl i)) ⊢ bigSep Finset.univ Φ := by
  rw [bigSep_univ_eq_bigSepL [sl 55, sl 56, sl 57, sl 58, sl 59, sl 60, sl 61, sl 62] (by decide) (by decide),
    bigSep_eq_bigSepL_of_eq [55, 56, 57, 58, 59, 60, 61, 62] (by decide) (by decide)]
  exact Entails.of_eq rfl

/-- The staging buffers of the two operands. -/
def aPts (c : Dev nD) (va : Vec F S1536x768 .bf16) : sProp 𝕄 := iprop((c : Thread nD τ).loc cc0_stg0_0 ↦{fullShare} va)
def bPts (c : Dev nD) (vb : Vec F S768x1536 .bf16) : sProp 𝕄 := iprop((c : Thread nD τ).loc cc0_stg1_0 ↦{fullShare} vb)

theorem zero_off : (![0, 0] : Fin 2 → Nat) = fun _ => 0 := funext fun a => by fin_cases a <;> rfl

theorem pair_sep (Φ : ℕ → sProp 𝕄) : bigSep (({0, 1} : Finset ℕ) \ ∅) Φ = iprop(Φ 0 ∗ Φ 1) := by
  rw [Finset.sdiff_empty, bigSep_eq_bigSepL_of_eq [0, 1] (by decide) (by decide)]
  rfl

section
variable (X : Dev nD → ℕ → Chunk F) (c : Dev nD) (K : Dev nD × Key → ℕ) (J : Dev nD × ℕ → ℕ)

theorem rest_bar : bigSep ((Rd X).duties (barCell c) 0 \ ∅) (fun d => (Rd X).payload (barCell c) 0 d) = iprop(emp ∗ first c 0) := by
  rw [duties_bar, pair_sep, payload_bar_zero, payload_bar_one]; rfl

/-- The entry barrier: the device's slots 1 … 7 go to the left neighbour, the right neighbour's come. -/
theorem run_enter (Q : PUnit → sProp 𝕄) :
    iprop(recs X K J ∗ owesE c (O₀ c) ∗ dutyTok ER (barCell (rgt c)) 0 0 ∗ dutyTok ER (barCell (lft c)) 0 1
        ∗ atPos ER (barCell c) 0 ∅ 0 ∗ cred (tallyAt (barCell c) 1 2) ∗ bigSep (Finset.Ico 0 7) (fun i => slotAny c (sl (i + 1))))
      ⊢ iprop((owesE c (dues c 0 0) ∗ atPos ER (barCell c) 1 ∅ 0 ∗ first c 0 -∗ Q ⟨⟩)
        -∗ wpc c (do semSignalWord (leftD c) barS 1#32; semSignalWord (rightD c) barS 1#32; semWaitWord barS 2#32) Q) := by
  have e1 : O₀ c = dues c 0 0 + tallyAt (barCell (rgt c)) 1 1 + tallyAt (barCell (lft c)) 1 1 := (add_assoc _ _ _).symm
  have p1 : (Rd X).payload (cell (lft c) (.inr (.inr 2))) 0 1 = bigSep (Finset.Ico 0 7) (fun i => slotAny c (sl (i + 1))) := by
    have h := payload_bar_one X (lft c)
    rw [rgt_lft] at h
    exact h
  rw [wpc, leftD_eq, rightD_eq, e1]
  simp only [wp_bind]
  iintro ⟨#HR, HO, Ht0, Ht1, Hp, Hc, Hs⟩ HQ
  iapply (step_signal X K J c (lft c) 2 barS rfl 1 1 (by rw [duties_bar]; decide) (dues c 0 0 + tallyAt (barCell (rgt c)) 1 1) _) $$ [HO Ht1 Hs]
  · isplitr; · iexact HR
    isplitl [HO]; · iexact HO
    isplitl [Ht1]; · iexact Ht1
    rw [p1]; iexact Hs
  iintro HO
  iapply (step_signal X K J c (rgt c) 2 barS rfl 0 1 (by rw [duties_bar]; decide) (dues c 0 0) _) $$ [HO Ht0]
  · isplitr; · iexact HR
    isplitl [HO]; · iexact HO
    isplitl [Ht0]; · iexact Ht0
    rw [payload_bar_zero X (rgt c)]; iempintro
  iintro HO
  iapply (step_wait X K J c 2 barS rfl 2#32 1 2 (by decide) (expect_bar X c) (dues c 0 0) (mayWait_dues c _ (by decide) (by decide) (by decide)) _) $$ [HO Hp Hc]
  · isplitr; · iexact HR
    isplitl [HO]; · iexact HO
    isplitl [Hp] <;> iassumption
  iintro ⟨HO, Hp, Hf⟩
  ihave Hf := (Entails.of_eq (rest_bar X c)) $$ Hf
  icases Hf with ⟨-, Hf⟩
  iapply HQ
  isplitl [HO]; · iexact HO
  isplitl [Hp] <;> iassumption

/-- The exit barrier, and nothing owed after it. -/
theorem run_exit (Q : PUnit → sProp 𝕄) :
    iprop(recs X K J ∗ owesE c (exitDue c) ∗ dutyTok ER (exitCell (rgt c)) 0 0 ∗ dutyTok ER (exitCell (lft c)) 0 1
        ∗ atPos ER (exitCell c) 0 ∅ 0 ∗ cred (tallyAt (exitCell c) 150 2))
      ⊢ iprop((owesE c 0 ∗ atPos ER (exitCell c) 1 ∅ 0 -∗ Q ⟨⟩)
        -∗ wpc c (do semSignalWord (leftD c) exitS 1#32; semSignalWord (rightD c) exitS 1#32; semWaitWord exitS 2#32) Q) := by
  have e1 : exitDue c = 0 + tallyAt (exitCell (rgt c)) 150 1 + tallyAt (exitCell (lft c)) 150 1 := by rw [zero_add]; rfl
  have h0 : levs (F := F) ⊢ MayWait (c : Thread nD τ) (csem (.inr (.inr 1))) 150 0 := by rw [MayWait_zero]; iintro -; iempintro
  rw [wpc, leftD_eq, rightD_eq, e1]
  simp only [wp_bind]
  iintro ⟨#HR, HO, Ht0, Ht1, Hp, Hc⟩ HQ
  iapply (step_signal X K J c (lft c) 1 exitS rfl 1 150 (by rw [duties_exit]; decide) (0 + tallyAt (exitCell (rgt c)) 150 1) _) $$ [HO Ht1]
  · isplitr; · iexact HR
    isplitl [HO]; · iexact HO
    isplitl [Ht1]; · iexact Ht1
    rw [payload_exit X (lft c)]; iempintro
  iintro HO
  iapply (step_signal X K J c (rgt c) 1 exitS rfl 0 150 (by rw [duties_exit]; decide) 0 _) $$ [HO Ht0]
  · isplitr; · iexact HR
    isplitl [HO]; · iexact HO
    isplitl [Ht0]; · iexact Ht0
    rw [payload_exit X (rgt c)]; iempintro
  iintro HO
  iapply (step_wait X K J c 1 exitS rfl 2#32 150 2 (by decide) (expect_exit X c) 0 h0 _) $$ [HO Hp Hc]
  · isplitr; · iexact HR
    isplitl [HO]; · iexact HO
    isplitl [Hp] <;> iassumption
  iintro ⟨HO, Hp, -⟩
  iapply HQ
  isplitl [HO] <;> iassumption

/-- The whole loads of the operands and of the result, and the whole store. -/
theorem step_loadA (va : Vec F S1536x768 .bf16) (Q : Vec F S1536x768 .bf16 → sProp 𝕄) :
    aPts c va ⊢ iprop((aPts c va -∗ Q va) -∗ wpc c (Prog.lift (.load aM (Rect.unit (s := S1536x768) ![0, 0] S1536x768.size inb_S1536x768_S1536x768_0_0).toLoadRect (View.loadsAt_vmem h_S1536x768))) Q) := by
  have e : aM.view.readAt (Elt F) (Rect.unit (s := S1536x768) ![0, 0] S1536x768.size inb_S1536x768_S1536x768_0_0).toLoadRect va = va :=
    Memref.readAt_unit_zero (Elt F) cc0_stg0_0 zero_off _ va
  unfold aPts Prog.lift
  iintro H HQ
  iapply (wp_load 𝒱₀ (c : Thread nD τ) none Set.univ (m := aM) (Finset.subset_univ _)) $$ H
  iintro H
  rw [wp_ret, e]
  imodintro
  iapply HQ; iexact H
theorem step_loadB (vb : Vec F S768x1536 .bf16) (Q : Vec F S768x1536 .bf16 → sProp 𝕄) :
    bPts c vb ⊢ iprop((bPts c vb -∗ Q vb) -∗ wpc c (Prog.lift (.load bM (Rect.unit (s := S768x1536) ![0, 0] S768x1536.size inb_S768x1536_S768x1536_0_0).toLoadRect (View.loadsAt_vmem h_S768x1536))) Q) := by
  have e : bM.view.readAt (Elt F) (Rect.unit (s := S768x1536) ![0, 0] S768x1536.size inb_S768x1536_S768x1536_0_0).toLoadRect vb = vb :=
    Memref.readAt_unit_zero (Elt F) cc0_stg1_0 zero_off _ vb
  unfold bPts Prog.lift
  iintro H HQ
  iapply (wp_load 𝒱₀ (c : Thread nD τ) none Set.univ (m := bM) (Finset.subset_univ _)) $$ H
  iintro H
  rw [wp_ret, e]
  imodintro
  iapply HQ; iexact H
theorem step_loadO (g : Out F) (Q : Out F → sProp 𝕄) :
    outPts c g ⊢ iprop((outPts c g -∗ Q g) -∗ wpc c (Prog.lift (.load oM (Rect.unit (s := S1536x1536) ![0, 0] S1536x1536.size inb_S1536x1536_S1536x1536_0_0).toLoadRect (View.loadsAt_vmem h_S1536x1536))) Q) := by
  have e : oM.view.readAt (Elt F) (Rect.unit (s := S1536x1536) ![0, 0] S1536x1536.size inb_S1536x1536_S1536x1536_0_0).toLoadRect g = g :=
    Memref.readAt_unit_zero (Elt F) cc0_stg2_0 zero_off _ g
  unfold outPts Prog.lift
  iintro H HQ
  iapply (wp_load 𝒱₀ (c : Thread nD τ) none Set.univ (m := oM) (Finset.subset_univ _)) $$ H
  iintro H
  rw [wp_ret, e]
  imodintro
  iapply HQ; iexact H
theorem step_storeO (g w : Out F) (Q : PUnit → sProp 𝕄) :
    outPts c g ⊢ iprop((outPts c w -∗ Q ⟨⟩) -∗ wpc c (Prog.lift (.store oM (Rect.unit (s := S1536x1536) ![0, 0] S1536x1536.size inb_S1536x1536_S1536x1536_0_0) w Finset.univ (View.stores_vmem_bits_univ h_S1536x1536 rfl) (.inl rfl))) Q) := by
  have e : (oM.access (Rect.unit (s := S1536x1536) ![0, 0] S1536x1536.size inb_S1536x1536_S1536x1536_0_0)).write (Elt F) g w Finset.univ = w :=
    Memref.write_access_unit_zero_univ (Elt F) cc0_stg2_0 zero_off _ g w
  unfold outPts Prog.lift
  iintro H HQ
  iapply (wp_store 𝒱₀ (c : Thread nD τ) none Set.univ (m := oM) (r := Rect.unit (s := S1536x1536) ![0, 0] S1536x1536.size inb_S1536x1536_S1536x1536_0_0)
    (Mk := Finset.univ) (Finset.subset_univ _)) $$ H
  iintro H
  rw [wp_ret, e]
  imodintro
  iapply HQ; iexact H

/-- The prologue: the product is in the result and its first rows in slot 0. -/
theorem run_prologue (va : Vec F S1536x768 .bf16) (vb : Vec F S768x1536 .bf16) (g : Out F) (Q : PUnit → sProp 𝕄) :
    iprop(recs X K J ∗ (owesE c (O₀ c) ∗ dutyTok ER (barCell (rgt c)) 0 0 ∗ dutyTok ER (barCell (lft c)) 0 1
        ∗ atPos ER (barCell c) 0 ∅ 0 ∗ cred (tallyAt (barCell c) 1 2)) ∗ bigSep Finset.univ (slotAny c) ∗ aPts c va ∗ bPts c vb ∗ outPts c g)
      ⊢ iprop((owesE c (dues c 0 0) ∗ atPos ER (barCell c) 1 ∅ 0 ∗ first c 0 ∗ slotPts c 0 (k0_pay2 (rowsAt (k0_off1 c) (k0_off1_inb c) (k0_pay1 va vb)))
          ∗ aPts c va ∗ bPts c vb ∗ outPts c (k0_pay1 va vb) -∗ Q ⟨⟩)
        -∗ wpc c (prologue c) Q) := by
  have ep : prologue (F := F) c = (do
      (do semSignalWord (leftD c) barS 1#32; semSignalWord (rightD c) barS 1#32; semWaitWord barS 2#32)
      let va ← Prog.lift (.load aM (Rect.unit (s := S1536x768) ![0, 0] S1536x768.size inb_S1536x768_S1536x768_0_0).toLoadRect (View.loadsAt_vmem h_S1536x768))
      let vb ← Prog.lift (.load bM (Rect.unit (s := S768x1536) ![0, 0] S768x1536.size inb_S768x1536_S768x1536_0_0).toLoadRect (View.loadsAt_vmem h_S768x1536))
      let _ ← Prog.lift (.load oM (Rect.unit (s := S1536x1536) ![0, 0] S1536x1536.size inb_S1536x1536_S1536x1536_0_0).toLoadRect (View.loadsAt_vmem h_S1536x1536))
      Prog.lift (.store oM (Rect.unit (s := S1536x1536) ![0, 0] S1536x1536.size inb_S1536x1536_S1536x1536_0_0) (k0_pay1 va vb) Finset.univ (View.stores_vmem_bits_univ h_S1536x1536 rfl) (.inl rfl))
      let x ← loadRows (k0_off1 c) (k0_off1_inb c)
      let _ ← loadSlot (F := F) 0
      storeSlot 0 (k0_pay2 x)) := rfl
  rw [ep, slots_split, wpc, wp_bind]
  iintro ⟨#HR, ⟨HO, Ht0, Ht1, Hp, Hc⟩, ⟨Hs0, Hs⟩, Ha, Hb, Ho⟩ HQ
  iapply (run_enter X c K J _) $$ [HO Ht0 Ht1 Hp Hc Hs]
  · isplitr; · iexact HR
    isplitl [HO]; · iexact HO
    isplitl [Ht0]; · iexact Ht0
    isplitl [Ht1]; · iexact Ht1
    isplitl [Hp]; · iexact Hp
    isplitl [Hc] <;> iassumption
  iintro ⟨HO, Hp, Hf⟩
  simp only [wp_bind]
  iapply (step_loadA c va _) $$ Ha
  iintro Ha
  iapply (step_loadB c vb _) $$ Hb
  iintro Hb
  iapply (step_loadO c g _) $$ Ho
  iintro Ho
  iapply (step_storeO c g (k0_pay1 va vb) _) $$ Ho
  iintro Ho
  iapply (step_loadRows c _ _ (k0_pay1 va vb) _) $$ Ho
  iintro Ho
  iapply (step_loadSlotAny c 0 _) $$ Hs0
  iintro %v Hs0
  iapply (step_storeSlot c 0 _ _) $$ Hs0
  iintro Hs0
  iapply HQ
  isplitl [HO]; · iexact HO
  isplitl [Hp]; · iexact Hp
  isplitl [Hf]; · iexact Hf
  isplitl [Hs0]; · iexact Hs0
  isplitl [Ha]; · iexact Ha
  isplitl [Hb] <;> iassumption

/-- The last two send waits, before whatever follows. -/
theorem run_lastSends (w : ℕ) (hw : w = 60) (p : Prog (TpuEff nD τ sig (Elt F) Λ₀ .tc) PUnit) (Q : PUnit → sProp 𝕄) :
    iprop(recs X K J ∗ owesE c (exitDue c) ∗ sendPos c w ∗ pend c w (w + 1 + 1))
      ⊢ iprop((owesE c (exitDue c) ∗ sendPos c (w + 1 + 1) ∗ slotAny c (sl w) ∗ slotAny c (sl (w + 1)) -∗ wpc c p Q)
        -∗ wpc c (do waitSend w; waitSend (w + 1); p) Q) := by
  have hW (sm : SemLoc sig) : levs (F := F) ⊢ MayWait (c : Thread nD τ) sm 0 (exitDue c) := by
    rw [← dues_end c (le_refl 55)]; exact mayWait_dues c sm (by decide) (by decide) (by decide)
  have e60 := step_waitSend X K J c w (by omega) (exitDue c) (hW _)
  have e61 := step_waitSend X K J c (w + 1) (by omega) (exitDue c) (hW _)
  have p60 := pend_step (F := F) c (show w < w + 1 + 1 by omega)
  have p61 := pend_step (F := F) c (show w + 1 < w + 1 + 1 by omega)
  rw [wpc, wpc, wp_bind, wp_bind]
  iintro ⟨#HR, HO, Hsp, Hpd⟩ HQ
  ihave Hpd := p60 $$ Hpd
  icases Hpd with ⟨Hc60, Hpd⟩
  ihave Hpd := p61 $$ Hpd
  icases Hpd with ⟨Hc61, -⟩
  iapply (e60 _) $$ [HO Hsp Hc60]
  · isplitr; · iexact HR
    isplitl [HO]; · iexact HO
    isplitl [Hsp] <;> iassumption
  iintro ⟨HO, Hsp, Hs60⟩
  iapply (e61 _) $$ [HO Hsp Hc61]
  · isplitr; · iexact HR
    isplitl [HO]; · iexact HO
    isplitl [Hsp] <;> iassumption
  iintro ⟨HO, Hsp, Hs61⟩
  iapply HQ
  isplitl [HO]; · iexact HO
  isplitl [Hsp]; · iexact Hsp
  isplitl [Hs60] <;> iassumption

theorem kept_last (w : ℕ) (hw : w = 62) : kept (F := F) c (w + 1) ⊢ bigSep Finset.univ (slotAny c) := by
  have e : w + 1 = 63 := by omega
  rw [e]
  exact slots_last (slotAny c)

/-- The slots kept from the last copies are all eight. -/
theorem kept_all (a : ℕ) (ha : a = 60) :
    iprop(kept c a ∗ slotAny c (sl a) ∗ slotAny c (sl (a + 1)) ∗ slotAny c (sl (a + 1 + 1))) ⊢ (bigSep Finset.univ (slotAny c) : sProp 𝕄) := by
  have k60 := kept_push (F := F) c (show 55 ≤ a by omega)
  have k61 := kept_push (F := F) c (show 55 ≤ a + 1 by omega)
  have k62 := kept_push (F := F) c (show 55 ≤ a + 1 + 1 by omega)
  have hk := kept_last (F := F) c (a + 1 + 1) (by omega)
  iintro ⟨Hk, H0, H1, H2⟩
  iapply hk
  iapply k62
  isplitl [H2]; · iexact H2
  iapply k61
  isplitl [H1]; · iexact H1
  iapply k60
  isplitl [H0] <;> iassumption

/-- The epilogue: every slot is the device's again, and it owes nothing. -/
theorem run_epilogue (w : ℕ) (hw : w = 60) (v : Chunk F) (Q : PUnit → sProp 𝕄) :
    iprop(recs X K J ∗ link c (w + 1 + 1) ∗ slotPts c (sl (w + 1 + 1)) v ∗ dutyTok ER (exitCell (rgt c)) 0 0 ∗ dutyTok ER (exitCell (lft c)) 0 1
        ∗ atPos ER (exitCell c) 0 ∅ 0 ∗ cred (tallyAt (exitCell c) 150 2))
      ⊢ iprop((owesE c 0 ∗ recvPos c (w + 1 + 1) ∗ sendPos c (w + 1 + 1) ∗ credPos c 55 ∗ atPos ER (exitCell c) 1 ∅ 0 ∗ bigSep Finset.univ (slotAny c) -∗ Q ⟨⟩)
        -∗ wpc c (do waitSend w; waitSend (w + 1)
                     (do semSignalWord (leftD c) exitS 1#32; semSignalWord (rightD c) exitS 1#32; semWaitWord exitS 2#32)) Q) := by
  have sp : slotPts c (sl (w + 1 + 1)) v ⊢ (slotAny c (sl (w + 1 + 1)) : sProp 𝕄) := slotPts_any c _ v
  have ed : dues c (w + 1 + 1) w = exitDue c := by rw [hw]; exact dues_end c (by decide)
  have e1 : w + 1 + 1 - 2 = w := by omega
  have e2 : w + 1 + 1 - 7 = 55 := by omega
  unfold link
  rw [e1, e2, ed]
  iintro ⟨#HR, ⟨HO, Hrp, Hsp, Hcp, -, -, -, -, Hpd, Hk, -⟩, Hs62, Ht0, Ht1, Hp, Hc⟩ HQ
  iapply (run_lastSends X c K J w hw _ _) $$ [HO Hsp Hpd]
  · isplitr; · iexact HR
    isplitl [HO]; · iexact HO
    isplitl [Hsp] <;> iassumption
  iintro ⟨HO, Hsp, Hs60, Hs61⟩
  ihave Hs62 := sp $$ Hs62
  ihave Hk := (kept_all c w hw) $$ [Hs60 Hs61 Hs62 Hk]
  · isplitl [Hk]; · iexact Hk
    isplitl [Hs60]; · iexact Hs60
    isplitl [Hs61] <;> iassumption
  iapply (run_exit X c K J _) $$ [HO Ht0 Ht1 Hp Hc]
  · isplitr; · iexact HR
    isplitl [HO]; · iexact HO
    isplitl [Ht0]; · iexact Ht0
    isplitl [Ht1]; · iexact Ht1
    isplitl [Hp] <;> iassumption
  iintro ⟨HO, Hp⟩
  iapply HQ
  isplitl [HO]; · iexact HO
  isplitl [Hrp]; · iexact Hrp
  isplitl [Hsp]; · iexact Hsp
  isplitl [Hcp]; · iexact Hcp
  isplitl [Hp] <;> iassumption

/-! ## Closing the cells -/

theorem close_one (k : Key) (R : ℕ) (h : ∀ r, R ≤ r → (Rd X).duties (cell c k) r = ∅) :
    iprop(recs X K J ∗ atPos ER (cell c k) R ∅ 0) ⊢ (|={Set.univ}=> semVal (cell c k) 0 : sProp 𝕄) := by
  have hR := recs_cell X K J c k
  iintro ⟨#HR, Hp⟩
  iapply (cell_close ER (Rd X) (κ := K (c, k)) (Set.mem_univ _) (fun h => h) (R := R) h)
  isplitr
  · iapply hR; iexact HR
  iexact Hp

theorem close_posn (k : Key) (R : ℕ) (h : ∀ r, R ≤ r → (Rd X).duties (cell c k) r = ∅) :
    iprop(recs X K J ∗ posn (cell c k) R) ⊢ (|={Set.univ}=> semVal (cell c k) 0 : sProp 𝕄) := by
  unfold posn
  iintro ⟨#HR, ⟨Hp, -⟩⟩
  iapply (close_one X c K J k R h)
  isplitr <;> iassumption

theorem bigSep_close {I : Type} [DecidableEq I] [Fintype I] (Φ Ψ : I → sProp 𝕄) (h : ∀ i, iprop(recs X K J ∗ Φ i) ⊢ (|={Set.univ}=> Ψ i : sProp 𝕄)) :
    iprop(recs X K J ∗ bigSep Finset.univ Φ) ⊢ (|={Set.univ}=> bigSep Finset.univ Ψ : sProp 𝕄) := by
  have h1 : iprop(recs X K J ∗ bigSep Finset.univ Φ) ⊢ bigSep Finset.univ (fun i => (iprop(|={Set.univ}=> Ψ i) : sProp 𝕄)) :=
    (sep_mono_left (BI.bigSep_of_persistent Finset.univ (recs X K J))).trans (by rw [← bigSep_sep']; exact bigSep_mono fun i _ => h i)
  exact h1.trans (bigSep_fupd _ _)

/-- The device's cells at zero. -/
def zeros : sProp 𝕄 :=
  iprop((bigSep Finset.univ fun s : Fin 8 => semVal (sendCell c s) 0) ∗ (bigSep Finset.univ fun s : Fin 8 => semVal (recvCell c s) 0)
    ∗ semVal (credCell c) 0 ∗ semVal (exitCell c) 0)

theorem close_all :
    iprop(recs X K J ∗ recvPos c 62 ∗ sendPos c 62 ∗ credPos c 55 ∗ atPos ER (exitCell c) 1 ∅ 0 ∗ atPos ER (barCell c) 1 ∅ 0)
      ⊢ (|={Set.univ}=> iprop(zeros c ∗ semVal (barCell c) 0) : sProp 𝕄) := by
  unfold recvPos sendPos credPos zeros
  rw [if_neg (lt_irrefl 55)]
  iintro ⟨#HR, Hr, Hs, Hc, He, Hb⟩
  imod (bigSep_close X K J (fun s => posn (F := F) (recvCell c s) (rc 62 s)) (fun s => semVal (recvCell c s) 0)
    fun s => close_posn X c K J _ _ (duties_recv_done X c s)) $$ [Hr] with Hr
  · isplitr <;> iassumption
  imod (bigSep_close X K J (fun s => posn (F := F) (sendCell c s) (sc 62 s)) (fun s => semVal (sendCell c s) 0)
    fun s => close_posn X c K J _ _ (duties_send_done X c s)) $$ [Hs] with Hs
  · isplitr <;> iassumption
  imod (close_one X c K J _ _ (duties_reg_done X c 0)) $$ [Hc] with Hc
  · isplitr <;> iassumption
  imod (close_one X c K J _ _ (duties_reg_done X c 1)) $$ [He] with He
  · isplitr <;> iassumption
  imod (close_one X c K J _ _ (duties_reg_done X c 2)) $$ [Hb] with Hb
  · isplitr <;> iassumption
  imodintro
  isplitr [Hb]
  · isplitl [Hs]; · iexact Hs
    isplitl [Hr]; · iexact Hr
    isplitl [Hc] <;> iassumption
  iexact Hb

end

/-! ## The body -/

/-- What the launch gives device `c`, the records apart: its places at its cells, the duties it pays and the credits it
    takes, at the barrier, over the hops, and at the exit. -/
def hand (c : Dev nD) : sProp 𝕄 :=
  iprop((dutyTok ER (barCell (rgt c)) 0 0 ∗ dutyTok ER (barCell (lft c)) 0 1 ∗ atPos ER (barCell c) 0 ∅ 0 ∗ cred (tallyAt (barCell c) 1 2))
    ∗ (recvPos c 0 ∗ sendPos c 0 ∗ credPos c 0 ∗ hopToks c 0 ∗ credOut c 0 ∗ credIn c 0)
    ∗ dutyTok ER (exitCell (rgt c)) 0 0 ∗ dutyTok ER (exitCell (lft c)) 0 1 ∗ atPos ER (exitCell c) 0 ∅ 0 ∗ cred (tallyAt (exitCell c) 150 2))

theorem link_zero (c : Dev nD) :
    iprop(owesE c (dues c 0 0) ∗ (recvPos c 0 ∗ sendPos c 0 ∗ credPos c 0 ∗ hopToks c 0 ∗ credOut c 0 ∗ credIn c 0) ∗ first c 0) ⊢ (link c 0 : sProp 𝕄) := by
  have e1 : (pend c 0 0 : sProp 𝕄) = iprop(emp) := bigSep_empty
  have e2 : (kept c 0 : sProp 𝕄) = iprop(emp) := bigSep_empty
  have e3 : (news c 0 : sProp 𝕄) = iprop(emp) := bigSep_empty
  unfold link
  rw [show 0 - 2 = 0 from rfl, e1, e2, e3]
  iintro ⟨HO, ⟨H1, H2, H3, H4, H5, H6⟩, Hf⟩
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [Hf]; · iexact Hf
  isplitr; · iempintro
  isplitr <;> iempintro

/-- The whole body of device `c`: from the operands staged to the result of all hops, every slot the device's own again,
    every cell at zero and nothing owed. -/
theorem run_body (va : Dev nD → Vec F S1536x768 .bf16) (vb : Dev nD → Vec F S768x1536 .bf16) (P : Dev nD → Out F)
    (hP : ∀ c, P c = k0_pay1 (va c) (vb c)) (c : Dev nD) (K : Dev nD × Key → ℕ) (J : Dev nD × ℕ → ℕ) (g : Out F) (Q : PUnit → sProp 𝕄) :
    iprop(recs (XP P) K J ∗ owesE c (O₀ c) ∗ hand c ∗ bigSep Finset.univ (slotAny c) ∗ aPts c (va c) ∗ bPts c (vb c) ∗ outPts c g)
      ⊢ iprop((owesE c 0 ∗ (zeros c ∗ semVal (barCell c) 0) ∗ bigSep Finset.univ (slotAny c) ∗ aPts c (va c) ∗ bPts c (vb c) ∗ outPts c (outAt P c 62) -∗ Q ⟨⟩)
        -∗ wpc c flat Q) := by
  have eX : XP P c 0 = k0_pay2 (rowsAt (k0_off1 c) (k0_off1_inb c) (P c)) := rfl
  unfold flat hand
  rw [wpc]
  simp only [wp_bind, Prog.lift, wp_deviceId, wp_ret]
  iintro ⟨#HR, HO, ⟨⟨Hb0, Hb1, Hbp, Hbc⟩, Hhop, He0, He1, Hep, Hec⟩, Hs, Ha, Hb, Ho⟩ HQ
  imodintro
  iapply (run_prologue (XP P) c K J (va c) (vb c) g _) $$ [HO Hb0 Hb1 Hbp Hbc Hs Ha Hb Ho]
  · isplitr; · iexact HR
    isplitl [HO Hb0 Hb1 Hbp Hbc]
    · isplitl [HO]; · iexact HO
      isplitl [Hb0]; · iexact Hb0
      isplitl [Hb1]; · iexact Hb1
      isplitl [Hbp] <;> iassumption
    isplitl [Hs]; · iexact Hs
    isplitl [Ha]; · iexact Ha
    isplitl [Hb] <;> iassumption
  rw [← hP c, ← eX]
  iintro ⟨HO, Hbp, Hf, Hs, Ha, Hb, Ho⟩
  ihave Hl := (link_zero c) $$ [HO Hhop Hf]
  · isplitl [HO]; · iexact HO
    isplitl [Hhop] <;> iassumption
  iapply (run_redHops P c K J 31 0 (by decide) _) $$ [Hl Hs Ho]
  · isplitr; · iexact HR
    unfold hopSt
    isplitl [Hl]; · iexact Hl
    isplitl [Hs]; · iexact Hs
    iexact Ho
  iintro Hh
  iapply (run_gatHops P c K J 31 0 (by decide) _) $$ [Hh]
  · isplitr; · iexact HR
    iexact Hh
  iintro Hh
  unfold hopSt
  icases Hh with ⟨Hl, Hs, Ho⟩
  iapply (wp_fupd frame (wpE (defs₀ (F := F)) 𝒱₀ (c : Thread nD τ) none) Set.univ (epilogue c) Q)
  iapply (run_epilogue (XP P) c K J 60 rfl (XP P c 62) _) $$ [Hl Hs He0 He1 Hep Hec]
  · isplitr; · iexact HR
    isplitl [Hl]; · iexact Hl
    isplitl [Hs]; · iexact Hs
    isplitl [He0]; · iexact He0
    isplitl [He1]; · iexact He1
    isplitl [Hep] <;> iassumption
  iintro ⟨HO, Hrp, Hsp, Hcp, Hep, Hs⟩
  imod (close_all (XP P) c K J) $$ [Hrp Hsp Hcp Hep Hbp] with Hz
  · isplitr; · iexact HR
    isplitl [Hrp]; · iexact Hrp
    isplitl [Hsp]; · iexact Hsp
    isplitl [Hcp]; · iexact Hcp
    isplitl [Hep] <;> iassumption
  imodintro
  iapply HQ
  isplitl [HO]; · iexact HO
  isplitl [Hz]; · iexact Hz
  isplitl [Hs]; · iexact Hs
  isplitl [Ha]; · iexact Ha
  isplitl [Hb]; · iexact Hb
  iexact Ho

end Cert.RingProof

end
-- ==== Proof.Launch.lean ====
/-
  The launch: what the machine's initial state deals each device, the body's obligation to the pipeline, and the run of
  @main on all 32 devices, for any float values.
-/
module

public import proofs.«01_k».proof.Proof.Ends
public import Idealize.ShloMosaic.Lib.Pipeline.CollectiveSegs
public import Idealize.ShloMosaic.Lib.Quiescent

@[expose] public section

noncomputable section

namespace Cert.RingProof

open Cert.KernelIdeal Cert.KernelIdeal.Gen
open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Release
open Idealize.ShloMosaic.Pipeline (Dat Cfg Window BodyObligation cellOf)

variable {F : FTy → Type} [FloatOps F]
local notation "𝕄" => MT nD τ sig ℕ (Elt F) ℕ UU ℕ

/-! ## Semaphores -/

/-- The kernel's scoped semaphores. -/
abbrev Own : Type := Fin 8 ⊕ Fin 8 ⊕ Fin 2
abbrev osem : Own → SemLoc sig
  | .inl s => .dma (sendS s)
  | .inr (.inl s) => .dma (recvS s)
  | .inr (.inr 0) => .reg credS
  | .inr (.inr 1) => .reg exitS

theorem ownSemFacts : Pipeline.OwnSemFacts cfg0.spec osem := by decide

/-- The cells of a device, kind by kind. -/
theorem keys_eq (Φ : Key → sProp 𝕄) : bigSep Finset.univ Φ
    = iprop((bigSep Finset.univ fun s : Fin 8 => Φ (.inl s)) ∗ (bigSep Finset.univ fun s : Fin 8 => Φ (.inr (.inl s)))
        ∗ Φ (.inr (.inr 0)) ∗ Φ (.inr (.inr 1)) ∗ Φ (.inr (.inr 2))) := by
  rw [bigSep_univ_sum, bigSep_univ_sum, bigSep_univ_eq_bigSepL [(0 : Fin 3), 1, 2] (by decide) (by decide)]
  rfl

theorem ownSems0_eq (c : Dev nD) : (Pipeline.ownSems0 (Ix := ℕ) (Name := ℕ) (U := UU) (Lvl := ℕ) (Val := Elt F) (τ := τ) osem c : sProp 𝕄) = zeros c := by
  unfold Pipeline.ownSems0 zeros
  rw [bigSep_univ_sum, bigSep_univ_sum, bigSep_univ_eq_bigSepL [(0 : Fin 2), 1] (by decide) (by decide)]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Key => semVal (cell c k) 0 : sProp 𝕄) := by
  rw [ownSems0_eq, unscopedSems0_eq, keys_eq]
  unfold zeros
  iintro ⟨⟨H1, H2, H3, H4⟩, H5⟩
  isplitl [H1]; · iexact H1
  isplitl [H2]; · iexact H2
  isplitl [H3]; · iexact H3
  isplitl [H4] <;> iassumption

/-! ## The ghost state at launch -/

theorem cell_injective : Function.Injective (fun x : Dev nD × Key => cell x.1 x.2) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨fun x : Dev nD × Key => cell x.1 x.2, cell_injective⟩

/-- The duties of a device's own cells: two at the barrier, two at the exit, one a hop at a receive and at a send cell,
    and the credits. -/
abbrev Tk : Type := Fin 2 ⊕ Fin 2 ⊕ Fin 62 ⊕ Fin 62 ⊕ Fin 55
def tokKey : Tk → Key × ℕ × ℕ
  | .inl d => (.inr (.inr 2), 0, d.val)
  | .inr (.inl d) => (.inr (.inr 1), 0, d.val)
  | .inr (.inr (.inl i)) => (.inr (.inl (sl (i.val + 1))), i.val / 8, 0)
  | .inr (.inr (.inr (.inl i))) => (.inl (sl i.val), i.val / 8, 0)
  | .inr (.inr (.inr (.inr k))) => (.inr (.inr 0), 0, k.val)
/-- Which duty a triple is. -/
def keyTok : Key × ℕ × ℕ → Tk
  | (.inr (.inr 2), _, d) => .inl (Fin.ofNat 2 d)
  | (.inr (.inr 1), _, d) => .inr (.inl (Fin.ofNat 2 d))
  | (.inr (.inl s), r, _) => .inr (.inr (.inl (Fin.ofNat 62 (8 * r + (s.val + 7) % 8))))
  | (.inl s, r, _) => .inr (.inr (.inr (.inl (Fin.ofNat 62 (8 * r + s.val)))))
  | (.inr (.inr 0), _, k) => .inr (.inr (.inr (.inr (Fin.ofNat 55 k))))
theorem keyTok_tokKey (j : Tk) : keyTok (tokKey j) = j := by revert j; decide +kernel
abbrev tokOf (x : Dev nD × Tk) : GSem nD τ sig × ℕ × ℕ := (cell x.1 (tokKey x.2).1, (tokKey x.2).2)
theorem tokOf_injective : Function.Injective tokOf := by
  rintro ⟨c, j⟩ ⟨c', j'⟩ h
  have h0 : cell c (tokKey j).1 = cell c' (tokKey j').1 := congrArg Prod.fst h
  have h1 : (c, (tokKey j).1) = (c', (tokKey j').1) := cell_injective h0
  have h2 : tokKey j = tokKey j' := Prod.ext (congrArg Prod.snd h1) (Prod.mk.inj h).2
  have h3 : j = j' := by rw [← keyTok_tokKey j, h2, keyTok_tokKey]
  rw [show c = c' from congrArg Prod.fst h1, h3]
def ringToks : Finset (GSem nD τ sig × ℕ × ℕ) := Finset.univ.map ⟨tokOf, tokOf_injective⟩

/-- One invariant per device and credit number. -/
abbrev slotKeys : Finset (Dev nD × ℕ) := Finset.univ ×ˢ Finset.range 55

def u₀ : UU :=
  (initOf (Pipeline.cells cfgs cellOf_inj) (Pipeline.launchToks cfgs cellOf_inj), (initOf ringCells ringToks, initSlots slotKeys 1))

theorem fin_range (n : ℕ) (Φ : ℕ → sProp 𝕄) : bigSep Finset.univ (fun i : Fin n => Φ i.val) = bigSep (Finset.Ico 0 n) Φ := by
  have e : Finset.Ico 0 n = (Finset.univ : Finset (Fin n)).map Fin.valEmbedding := by
    rw [Fin.map_valEmbedding_univ]; ext i; simp
  rw [e, bigSep_map]; rfl

theorem slotKeys_eq (Φ : Dev nD × ℕ → sProp 𝕄) : bigSep slotKeys Φ = bigSep Finset.univ fun c : Dev nD => bigSep (Finset.range 55) fun k => Φ (c, k) := by
  have hi : Function.Injective (fun x : Dev nD × Fin 55 => ((x.1, x.2.val) : Dev nD × ℕ)) := fun x y h =>
    Prod.ext (Prod.mk.inj h).1 (Fin.ext (Prod.mk.inj h).2)
  have e : slotKeys = (Finset.univ : Finset (Dev nD × Fin 55)).map ⟨_, hi⟩ := by
    ext ⟨c, k⟩
    simp only [Finset.mem_product, Finset.mem_univ, Finset.mem_range, Finset.mem_map, Function.Embedding.coeFn_mk]
    exact ⟨fun h => ⟨(c, ⟨k, h.2⟩), trivial, rfl⟩, fun ⟨x, _, h⟩ => ⟨trivial, (Prod.mk.inj h).2 ▸ x.2.isLt⟩⟩
  rw [e, bigSep_map, bigSep_univ_prod]
  refine bigSep_congr fun c _ => ?_
  rw [Finset.range_eq_Ico, ← fin_range]
  rfl
theorem slotKeys_one (Φ : (Dev nD × ℕ) × ℕ → sProp 𝕄) : bigSep (slotKeys ×ˢ Finset.range 1) Φ = bigSep slotKeys fun k => Φ (k, 0) := by
  have hi : Function.Injective (fun x : Dev nD × ℕ => ((x, 0) : (Dev nD × ℕ) × ℕ)) := fun x y h => congrArg Prod.fst h
  have e : slotKeys ×ˢ Finset.range 1 = slotKeys.map ⟨_, hi⟩ := by rw [Finset.range_one, Finset.product_singleton]
  rw [e, bigSep_map]
  rfl

/-- The duty tokens of a device's cells: at the barrier and exit cells of `a` (duty 0) and `b` (duty 1), the receive
    cells of `a`, its own send cells, the credit cell of `b`. The launch mints them with `a = b = c`; the device that
    pays them is `c` with `a` on its right and `b` on its left. -/
def toks (a b c : Dev nD) : sProp 𝕄 :=
  iprop((dutyTok ER (barCell a) 0 0 ∗ dutyTok ER (barCell b) 0 1) ∗ (dutyTok ER (exitCell a) 0 0 ∗ dutyTok ER (exitCell b) 0 1)
    ∗ bigSep (Finset.Ico 0 62) (fun i => dutyTok ER (recvCell a (sl (i + 1))) (i / 8) 0)
    ∗ bigSep (Finset.Ico 0 62) (fun i => dutyTok ER (sendCell c (sl i)) (i / 8) 0)
    ∗ bigSep (Finset.Ico 0 55) (fun k => dutyTok ER (credCell b) 0 k))

theorem toks_eq (c : Dev nD) : bigSep Finset.univ (fun j : Tk => (dutyTok ER (tokOf (c, j)).1 (tokOf (c, j)).2.1 (tokOf (c, j)).2.2 : sProp 𝕄)) = toks c c c := by
  unfold toks
  rw [bigSep_univ_sum, bigSep_univ_sum, bigSep_univ_sum, bigSep_univ_sum, bigSep_univ_eq_bigSepL [(0 : Fin 2), 1] (by decide) (by decide),
    bigSep_univ_eq_bigSepL [(0 : Fin 2), 1] (by decide) (by decide), ← fin_range, ← fin_range, ← fin_range]
  rfl

theorem toks_around : (bigSep Finset.univ fun c : Dev nD => (toks c c c : sProp 𝕄)) ⊢ bigSep Finset.univ fun c : Dev nD => toks (rgt c) (lft c) c := by
  unfold toks
  simp only [bigSep_sep']
  rw [bigSep_univ_equiv ring (fun c : Dev nD => (dutyTok ER (barCell c) 0 0 : sProp 𝕄)),
    bigSep_univ_equiv ring.symm (fun c : Dev nD => (dutyTok ER (barCell c) 0 1 : sProp 𝕄)),
    bigSep_univ_equiv ring (fun c : Dev nD => (dutyTok ER (exitCell c) 0 0 : sProp 𝕄)),
    bigSep_univ_equiv ring.symm (fun c : Dev nD => (dutyTok ER (exitCell c) 0 1 : sProp 𝕄)),
    bigSep_univ_equiv ring (fun c : Dev nD => (bigSep (Finset.Ico 0 62) (fun i => dutyTok ER (recvCell c (sl (i + 1))) (i / 8) 0) : sProp 𝕄)),
    bigSep_univ_equiv ring.symm (fun c : Dev nD => (bigSep (Finset.Ico 0 55) (fun k => dutyTok ER (credCell c) 0 k) : sProp 𝕄))]
  exact Entails.refl _

/-- The slots' tokens of device `c`: the right to give back its own slots, and the token that takes each of `a`'s. -/
def slotToks (a c : Dev nD) : sProp 𝕄 :=
  iprop(bigSep (Finset.range 55) (fun k => readerAt ES (c, k) 0) ∗ bigSep (Finset.range 55) (fun k => writeTok ES (a, k) 1))

theorem slotToks_around : (bigSep Finset.univ fun c : Dev nD => (slotToks c c : sProp 𝕄)) ⊢ bigSep Finset.univ fun c : Dev nD => slotToks (rgt c) c := by
  unfold slotToks
  simp only [bigSep_sep']
  rw [bigSep_univ_equiv ring (fun c : Dev nD => (bigSep (Finset.range 55) (fun k => writeTok ES (c, k) 1) : sProp 𝕄))]
  exact Entails.refl _

def slotInvs (J : Dev nD × ℕ → ℕ) : sProp 𝕄 := bigSep slotKeys (fun k : Dev nD × ℕ => slotInv ES (J k) k (slotAny (F := F) k.1 (sl k.2)))
instance slotInvs_persistent (J : Dev nD × ℕ → ℕ) : BI.Persistent (slotInvs (F := F) J) := by unfold slotInvs; infer_instance

theorem fund_slots : BI.own (ES (initSlots slotKeys 1)) ⊢ (|={Set.univ}=> iprop((∃ J, slotInvs J) ∗ bigSep Finset.univ fun c : Dev nD => slotToks c c) : sProp 𝕄) := by
  have e1 : bigSep slotKeys (fun k => (readerAt ES k 0 : sProp 𝕄)) = bigSep Finset.univ fun c : Dev nD => bigSep (Finset.range 55) fun k => readerAt ES (c, k) 0 := slotKeys_eq _
  have e2 : bigSep (slotKeys ×ˢ Finset.range 1) (fun x => (writeTok ES x.1 (x.2 + 1) : sProp 𝕄))
      = bigSep Finset.univ fun c : Dev nD => bigSep (Finset.range 55) fun k => writeTok ES (c, k) 1 := by
    rw [slotKeys_one, slotKeys_eq]
  have h := slots_init (Es := Set.univ) ES slotKeys 1 (fun k : Dev nD × ℕ => (slotAny k.1 (sl k.2) : sProp 𝕄)) ∅
  rw [e1, e2] at h
  unfold slotToks slotInvs
  rw [bigSep_sep']
  iintro H
  imod h $$ H with ⟨%J, -, HI, Hr, Hw⟩
  imodintro
  isplitl [HI]; · iexists J; iexact HI
  isplitl [Hr] <;> iassumption

variable (X : Dev nD → ℕ → Chunk F)

/-- What the launch element deals device `c`. -/
def G (c : Dev nD) : sProp 𝕄 :=
  iprop(((bigSep Finset.univ fun k : Key => roundState ER (Rd X) (cell c k) 0)
    ∗ (bigSep Finset.univ fun k : Key => iprop(atPos ER (cell c k) 0 ∅ 0 ∗ reached ER (cell c k) 0)) ∗ toks c c c)
    ∗ (∃ J, slotInvs J) ∗ slotToks c c)

theorem fund_ring : BI.own (ER (initOf ringCells ringToks)) ⊢ (|==> bigSep Finset.univ (fun c : Dev nD =>
      iprop((bigSep Finset.univ fun k : Key => roundState ER (Rd X) (cell c k) 0)
        ∗ (bigSep Finset.univ fun k : Key => iprop(atPos ER (cell c k) 0 ∅ 0 ∗ reached ER (cell c k) 0)) ∗ toks c c c)) : sProp 𝕄) := by
  have hX (Φ : GSem nD τ sig → sProp 𝕄) : bigSep ringCells Φ = bigSep Finset.univ fun c : Dev nD => bigSep Finset.univ fun k : Key => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c c c := by
    unfold ringToks; rw [bigSep_map, bigSep_univ_prod]
    exact bigSep_congr fun c _ => toks_eq c
  have h := Rounds.fund ER (Rd X) ringCells ringToks
  rw [hX, hX, hX, hT] at h
  simp only [bigSep_sep']
  iintro HX
  imod h $$ HX with ⟨Hst, Hr, Hat, Htok⟩
  imodintro
  isplitl [Hst]; · iexact Hst
  isplitl [Hat Hr]
  · isplitl [Hat] <;> iassumption
  iexact Htok

theorem launch_elem : (ownU u₀ : sProp 𝕄)
    ⊢ |={Set.univ}=> iprop(BI.own (EP (initOf (Pipeline.cells cfgs cellOf_inj) (Pipeline.launchToks cfgs cellOf_inj))) ∗ bigSep Finset.univ (G X)) := by
  have hJ : iprop((∃ J, slotInvs (F := F) J)) ⊢ bigSep Finset.univ (fun _ : Dev nD => iprop(∃ J, slotInvs (F := F) J)) := by
    iintro ⟨%J, #H⟩
    iapply (BI.bigSep_of_persistent Finset.univ (iprop(∃ J, slotInvs (F := F) J)))
    iexists J; iexact H
  unfold u₀ G
  rw [bigSep_sep', bigSep_sep' (Φ := fun _ : Dev nD => iprop(∃ J, slotInvs (F := F) J))]
  iintro Hu
  ihave H := (ownU_pair _ _) $$ Hu
  icases H with ⟨HP, HX⟩
  ihave HX := (own_pair_emb EB _ _) $$ HX
  icases HX with ⟨HR, HS⟩
  imod (fund_ring X) $$ HR with HG
  imod fund_slots $$ HS with ⟨HJ, Ht⟩
  imodintro
  isplitl [HP]; · iexact HP
  isplitl [HG]; · iexact HG
  isplitl [HJ]
  · iapply hJ; iexact HJ
  iexact Ht

theorem core_alloc (c : Dev nD) :
    iprop(Pipeline.ownSems0 (Ix := ℕ) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (cell c k)))
          ∗ ((bigSep Finset.univ fun k => iprop(atPos ER (cell c k) 0 ∅ 0 ∗ reached ER (cell c k) 0)) ∗ toks c c c) ∗ (∃ J, slotInvs J) ∗ slotToks c c) := by
  unfold G
  iintro ⟨Hos, Hus, ⟨Hst, Hat, Htok⟩, HJ, Hs⟩
  ihave Hv := (sems0_eq (F := F) c) $$ [Hos Hus]
  · isplitl [Hos] <;> iassumption
  imod (show iprop((bigSep Finset.univ fun k : Key => semVal (cell c k) 0) ∗ bigSep Finset.univ fun k : Key => roundState ER (Rd X) (cell c k) 0)
      ⊢ (|={Set.univ}=> bigSep Finset.univ fun k => iprop(∃ κ : ℕ, cellInv ER (Rd X) κ (cell c k)) : sProp 𝕄) from by
        rw [← bigSep_sep']
        exact (bigSep_mono fun k _ => (Rounds.body_intro ER (Rd X) (cell c k)).trans inv_alloc).trans (bigSep_fupd _ _)) $$ [Hv Hst] with Hinv
  · isplitl [Hv] <;> iassumption
  imodintro
  isplitl [Hinv]; · iexact Hinv
  isplitl [Hat Htok]
  · isplitl [Hat] <;> iassumption
  isplitl [HJ] <;> iassumption

/-- What the global step makes of it: the invariants and marks, known to all; its places, the tokens it pays and takes with. -/
def cellRecs (K : Dev nD × Key → ℕ) : sProp 𝕄 :=
  iprop(bigSep Finset.univ (fun x : Dev nD × Key => cellInv ER (Rd X) (K x) (cell x.1 x.2)) ∗ bigSep Finset.univ (fun x : Dev nD × Key => reached ER (cell x.1 x.2) 0))
instance cellRecs_persistent (K : Dev nD × Key → ℕ) : BI.Persistent (cellRecs X K) := by unfold cellRecs; infer_instance

def G' (c : Dev nD) : sProp 𝕄 :=
  iprop((∃ K, cellRecs X K) ∗ (bigSep Finset.univ fun k : Key => atPos ER (cell c k) 0 ∅ 0) ∗ toks (rgt c) (lft c) c ∗ (∃ J, slotInvs J) ∗ slotToks (rgt c) c)

theorem regroup :
    (bigSep Finset.univ fun c : Dev nD => iprop((bigSep Finset.univ fun k => iprop(∃ κ : ℕ, cellInv ER (Rd X) κ (cell c k)))
          ∗ ((bigSep Finset.univ fun k => iprop(atPos ER (cell c k) 0 ∅ 0 ∗ reached ER (cell c k) 0)) ∗ toks c c c) ∗ (∃ J, slotInvs J) ∗ slotToks c c) : sProp 𝕄)
      ⊢ bigSep Finset.univ (G' X) := by
  have hK : iprop((∃ K, cellRecs X K)) ⊢ bigSep Finset.univ (fun _ : Dev nD => iprop(∃ K, cellRecs X K)) := by
    iintro ⟨%K, #H⟩
    iapply (BI.bigSep_of_persistent Finset.univ (iprop(∃ K, cellRecs X K)))
    iexists K; iexact H
  unfold G'
  simp only [bigSep_sep']
  rw [← bigSep_univ_prod (fun ck : Dev nD × Key => iprop(∃ κ : ℕ, cellInv ER (Rd X) κ (cell ck.1 ck.2))),
    ← bigSep_univ_prod (fun ck : Dev nD × Key => (reached ER (cell ck.1 ck.2) 0 : sProp 𝕄))]
  iintro ⟨HI, ⟨⟨Hat, HR⟩, Htok⟩, HJ, Hs⟩
  ihave HK := (BI.bigSep_exists_pi Finset.univ (fun (ck : Dev nD × Key) (κ : ℕ) => (cellInv ER (Rd X) κ (cell ck.1 ck.2) : sProp 𝕄))) $$ HI
  icases HK with ⟨%K, HI⟩
  isplitl [HI HR]
  · iapply hK; iexists K; unfold cellRecs
    isplitl [HI] <;> iassumption
  isplitl [Hat]; · iexact Hat
  isplitl [Htok]; · iapply toks_around; iexact Htok
  isplitl [HJ]; · iexact HJ
  iapply slotToks_around; iexact Hs

theorem glob : (bigSep Finset.univ fun c => iprop(Pipeline.ownSems0 (Ix := ℕ) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The launch credit -/

theorem cred_two (g : GSem nD τ sig) (i : ℕ) : iprop(cred (tallyAt g i 1) ∗ cred (tallyAt g i 1)) ⊢ (cred (tallyAt g i 2) : sProp 𝕄) := by
  have e : (tallyAt g i 2 : CellTallies nD τ sig ℕ) = tallyAt g i 1 + tallyAt g i 1 := by unfold tallyAt; rw [← tallyOn_add, ← Finsupp.single_add]
  rw [e]
  exact (cred_add _ _).2

/-- What the neighbours owe a device is what it will wait for. -/
theorem creds (c : Dev nD) : (Pipeline.launchCred O₀ c : sProp 𝕄)
    ⊢ iprop(cred (tallyAt (barCell c) 1 2) ∗ cred (tallyAt (exitCell c) 150 2) ∗ bigSep (Finset.Ico 0 62) (fun i => cred (tallyAt (recvCell c (sl (i + 1))) (2 * i + 4) N))
        ∗ bigSep (Finset.Ico 0 55) (fun k => cred (tallyAt (credCell c) (2 * k + 7) 1))) := by
  have hR (sm : SemLoc sig) (i n : ℕ) : (Pipeline.launchCred (fun d => tallyAt (((rgt d : Dev nD) : Thread nD τ), sm) i n) c : sProp 𝕄) ⊢ cred (tallyAt ((c : Thread nD τ), sm) i n) :=
    Pipeline.launchCred_tallyAt sm rgt lft rgt_lft lft_rgt i n c
  have hL (sm : SemLoc sig) (i n : ℕ) : (Pipeline.launchCred (fun d => tallyAt (((lft d : Dev nD) : Thread nD τ), sm) i n) c : sProp 𝕄) ⊢ cred (tallyAt ((c : Thread nD τ), sm) i n) :=
    Pipeline.launchCred_tallyAt sm lft rgt lft_rgt rgt_lft i n c
  have e : (O₀ : Dev nD → CellTallies nD τ sig ℕ) = fun d =>
      (∑ i ∈ Finset.Ico 0 62, tallyAt (recvCell (rgt d) (sl (i + 1))) (2 * i + 4) N
        + (∑ k ∈ Finset.Ico 0 55, tallyAt (credCell (lft d)) (2 * k + 7) 1 + (tallyAt (exitCell (rgt d)) 150 1 + tallyAt (exitCell (lft d)) 150 1)))
        + (tallyAt (barCell (rgt d)) 1 1 + tallyAt (barCell (lft d)) 1 1) := rfl
  rw [e, Pipeline.launchCred_add, Pipeline.launchCred_add, Pipeline.launchCred_add, Pipeline.launchCred_add, Pipeline.launchCred_add,
    Pipeline.launchCred_sum, Pipeline.launchCred_sum]
  have h1 : bigSep (Finset.Ico 0 62) (fun i => (Pipeline.launchCred (fun d => tallyAt (recvCell (rgt d) (sl (i + 1))) (2 * i + 4) N) c : sProp 𝕄))
      ⊢ bigSep (Finset.Ico 0 62) (fun i => cred (tallyAt (recvCell c (sl (i + 1))) (2 * i + 4) N)) := bigSep_mono fun i _ => hR _ _ _
  have h2 : bigSep (Finset.Ico 0 55) (fun k => (Pipeline.launchCred (fun d => tallyAt (credCell (lft d)) (2 * k + 7) 1) c : sProp 𝕄))
      ⊢ bigSep (Finset.Ico 0 55) (fun k => cred (tallyAt (credCell c) (2 * k + 7) 1)) := bigSep_mono fun k _ => hL _ _ _
  have h3 := (BIClass.sep_mono (hR (csem (.inr (.inr 1))) 150 1) (hL (csem (.inr (.inr 1))) 150 1)).trans (cred_two _ _)
  have h4 := (BIClass.sep_mono (hR (csem (.inr (.inr 2))) 1 1) (hL (csem (.inr (.inr 2))) 1 1)).trans (cred_two _ _)
  iintro ⟨⟨H1, H2, H3⟩, H4⟩
  isplitl [H4]; · iapply h4; iexact H4
  isplitl [H3]; · iapply h3; iexact H3
  isplitl [H1]; · iapply h1; iexact H1
  iapply h2; iexact H2

/-! ## What the body starts from -/

def start (c : Dev nD) : sProp 𝕄 := iprop((∃ K, ∃ J, recs X K J) ∗ hand c)

/-- The pieces dealt are what the body takes in hand. -/
theorem hand_intro (c : Dev nD) :
    iprop((bigSep Finset.univ fun k : Key => iprop(atPos ER (cell c k) 0 ∅ 0 ∗ reached ER (cell c k) 0)) ∗ toks (rgt c) (lft c) c ∗ slotToks (rgt c) c ∗ Pipeline.launchCred O₀ c)
      ⊢ (hand c : sProp 𝕄) := by
  have e1 : (hopToks c 0 : sProp 𝕄) = iprop(bigSep (Finset.Ico 0 62) (fun i => dutyTok ER (recvCell (rgt c) (sl (i + 1))) (i / 8) 0)
      ∗ bigSep (Finset.Ico 0 62) (fun i => dutyTok ER (sendCell c (sl i)) (i / 8) 0) ∗ bigSep (Finset.Ico 0 62) (fun i => cred (tallyAt (recvCell c (sl (i + 1))) (2 * i + 4) N))) := by
    unfold hopToks; rw [bigSep_sep', bigSep_sep']
  have e2 : (credOut c 0 : sProp 𝕄) = iprop(bigSep (Finset.Ico 0 55) (fun k => dutyTok ER (credCell (lft c)) 0 k) ∗ bigSep (Finset.range 55) (fun k => readerAt ES (c, k) 0)) := by
    unfold credOut; rw [bigSep_sep', Finset.range_eq_Ico]
  have e3 : (credIn c 0 : sProp 𝕄) = iprop(bigSep (Finset.range 55) (fun k => writeTok ES (rgt c, k) 1) ∗ bigSep (Finset.Ico 0 55) (fun k => cred (tallyAt (credCell c) (2 * k + 7) 1))) := by
    unfold credIn; rw [bigSep_sep', Finset.range_eq_Ico]
  have e4 : (bigSep Finset.univ fun s : Fin 8 => (iprop(atPos ER (cell c (.inl s)) 0 ∅ 0 ∗ reached ER (cell c (.inl s)) 0) : sProp 𝕄)) = sendPos c 0 := by
    unfold sendPos posn
    refine bigSep_congr fun s _ => ?_
    rw [show sc 0 s = 0 by unfold sc; omega]
  have e5 : (bigSep Finset.univ fun s : Fin 8 => (iprop(atPos ER (cell c (.inr (.inl s))) 0 ∅ 0 ∗ reached ER (cell c (.inr (.inl s))) 0) : sProp 𝕄)) = recvPos c 0 := by
    unfold recvPos posn
    refine bigSep_congr fun s _ => ?_
    rw [show rc 0 s = 0 by unfold rc; omega]
  have e6 : (atPos ER (credCell c) 0 ∅ 0 : sProp 𝕄) ⊢ credPos c 0 := by
    unfold credPos
    rw [if_pos (by decide)]
    iintro H
    iexists ∅
    isplitr; · ipureintro; exact Finset.empty_subset _
    isplitl [H]; · iexact H
    rw [bigSep_empty]; iempintro
  unfold hand toks slotToks
  rw [e1, e2, e3, keys_eq, e4, e5]
  iintro ⟨⟨Hsp, Hrp, ⟨Hcp, -⟩, ⟨Hep, -⟩, ⟨Hbp, -⟩⟩, ⟨⟨Hb0, Hb1⟩, ⟨He0, He1⟩, Htr, Hts, Htc⟩, ⟨Hrd, Hwr⟩, Hcr⟩
  ihave Hcr := (creds c) $$ Hcr
  icases Hcr with ⟨Hcb, Hce, Hch, Hcc⟩
  isplitl [Hb0 Hb1 Hbp Hcb]
  · isplitl [Hb0]; · iexact Hb0
    isplitl [Hb1]; · iexact Hb1
    isplitl [Hbp] <;> iassumption
  isplitr [He0 He1 Hep Hce]
  · isplitl [Hrp]; · iexact Hrp
    isplitl [Hsp]; · iexact Hsp
    isplitl [Hcp]; · iapply e6; iexact Hcp
    isplitl [Htr Hts Hch]
    · isplitl [Htr]; · iexact Htr
      isplitl [Hts] <;> iassumption
    isplitl [Htc Hrd]
    · isplitl [Htc] <;> iassumption
    isplitl [Hwr] <;> iassumption
  isplitl [He0]; · iexact He0
  isplitl [He1]; · iexact He1
  isplitl [Hep] <;> iassumption

/-- At launch the semaphores are zero. -/
def s₀ (m : (ℓ : Loc nD τ sig) → Buf (Elt F) ℓ) (ρ : Dev nD → PrngReg) : MemSt nD τ sig (Elt F) := ⟨m, fun _ => 0, ρ⟩

section Run
variable (m : (ℓ : Loc nD τ sig) → Buf (Elt F) ℓ) (ρ : Dev nD → PrngReg)

/-- Device `c`'s columns of `A`, its rows of `B`, as staged, and their product. -/
def va (c : Dev nD) : Vec F S1536x768 .bf16 := (win0_0.blk t0_0).view.read (Elt F) ((s₀ m ρ).mem ((c : Thread nD τ).loc main_arg0))
def vb (c : Dev nD) : Vec F S768x1536 .bf16 := (win0_1.blk t0_0).view.read (Elt F) ((s₀ m ρ).mem ((c : Thread nD τ).loc main_arg1))
def prod (c : Dev nD) : Out F := k0_pay1 (va m ρ c) (vb m ρ c)

/-- The result on device `c`: what stands in its output window after the last hop. -/
@[irreducible] def final (c : Dev nD) : Out F := outAt (prod m ρ) c 62
theorem final_eq (c : Dev nD) : final m ρ c = outAt (prod m ρ) c 62 := by unfold final; rfl

def Φ₀ (c : Dev nD) : sProp 𝕄 := iprop(start (XP (prod m ρ)) c ∗ ∃ f, cLoc c ↦{fullShare} f)
def Φ₁ (c : Dev nD) : sProp 𝕄 := iprop((∃ f, cLoc c ↦{fullShare} f) ∗ zeros c ∗ semVal (barCell c) 0)

/-- The pipeline's data on device `c`: the inputs as they were, the result of the whole run in the output window. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => va m ρ c
    | ⟨1, _⟩ => vb m ρ c
    | ⟨2, _⟩ => final m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem share_eq (w : Fin cfg0.W) : ∀ c : Dev nD, (dats m ρ 0 c).share w = fullShare := fun c => by unfold Dat.share; split <;> rfl

theorem owns_stage (c : Dev nD) (b : Ref sig .tc) (v : b.ty.Contents (Elt F)) :
    (owns (Ix := ℕ) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns; simp only [Memref.view_whole, View.read_whole, View.set_whole]

/-- A staging buffer held whole at given contents. -/
def stg (c : Dev nD) (b : Ref sig .tc) (v : b.ty.Contents (Elt F)) : sProp 𝕄 :=
  iprop(∃ f : Buf (Elt F) ((c : Thread nD τ).loc b), ⌜f = v⌝ ∗ ((c : Thread nD τ).loc b) ↦{fullShare} f)
theorem stg_pts (c : Dev nD) (b : Ref sig .tc) (v : b.ty.Contents (Elt F)) : stg c b v ⊢ (((c : Thread nD τ).loc b) ↦{fullShare} v : sProp 𝕄) := by
  unfold stg; iintro ⟨%f, %e, H⟩; subst e; iexact H
theorem pts_stg (c : Dev nD) (b : Ref sig .tc) (v : b.ty.Contents (Elt F)) : (((c : Thread nD τ).loc b) ↦{fullShare} v : sProp 𝕄) ⊢ stg c b v := by
  unfold stg; iintro H; iexists v
  isplitr; · ipureintro; rfl
  iexact H

theorem bigSep_W (Φ : Fin cfg0.W → sProp 𝕄) : bigSep Finset.univ Φ = iprop(Φ (0 : Fin 3) ∗ Φ (1 : Fin 3) ∗ Φ (2 : Fin 3)) := bigSep_W0 Φ

theorem fetch_a : (cfg0.win (0 : Fin 3)).fetch t0_0 = true := rfl
theorem fetch_b : (cfg0.win (1 : Fin 3)).fetch t0_0 = true := rfl
theorem before_a (c : Dev nD) (d) : (dats m ρ 0 c).before (0 : Fin 3) t0_0 d = va m ρ c := by unfold Dat.before; rw [if_pos fetch_a]; rfl
theorem before_b (c : Dev nD) (d) : (dats m ρ 0 c).before (1 : Fin 3) t0_0 d = vb m ρ c := by unfold Dat.before; rw [if_pos fetch_b]; rfl

def bodyPre (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt 0 t0_0.succ ∗ stg c cc0_stg0_0 (va m ρ c) ∗ stg c cc0_stg1_0 (vb m ρ c) ∗ stg c cc0_stg2_0 (final m ρ c))

/-- What is owed at the two ends of the one point. -/
theorem owes_start (c : Dev nD) : (dats m ρ 0 c).owesAt 0 t0_0.castSucc ⊢ (owesE c (O₀ c) : sProp 𝕄) := by
  unfold Dat.owesAt Pipeline.owesWithin owesE
  rw [show (dats m ρ 0 c).owed t0_0.castSucc = O₀ c from rfl]
  iintro ⟨%W, -, H⟩; iexists W; iexact H
theorem owes_end (c : Dev nD) : (owesE c 0 : sProp 𝕄) ⊢ (dats m ρ 0 c).owesAt 0 t0_0.succ := by
  unfold Dat.owesAt Pipeline.owesWithin owesE
  rw [show (dats m ρ 0 c).owed t0_0.succ = 0 from rfl]
  iintro ⟨%W, H⟩; iexists W
  isplitr; · ipureintro; exact fun _ _ => Or.inl trivial
  iexact H

theorem body_run (c : Dev nD) : bodyPre m ρ c ⊢ wpc c flat (fun _ => bodyPost m ρ c) := by
  unfold bodyPre Φ₀ start
  simp only [before_a, before_b]
  iintro ⟨⟨⟨⟨%K, %J, HR⟩, Hh⟩, Hs⟩, HO, ⟨%_, Ha⟩, ⟨%_, Hb⟩, ⟨%d, Ho⟩⟩
  ihave HO := (owes_start m ρ c) $$ HO
  ihave Hs := (slots_of_whole c) $$ Hs
  ihave Ha := (stg_pts _ _ _) $$ Ha
  ihave Hb := (stg_pts _ _ _) $$ Hb
  ihave Ho := (stg_pts _ _ _) $$ Ho
  iapply (run_body (va m ρ) (vb m ρ) (prod m ρ) (fun _ => rfl) c K J ((dats m ρ 0 c).before (2 : Fin 3) t0_0 d) (fun _ => bodyPost m ρ c)) $$ [HR HO Hh Hs Ha Hb Ho]
  · isplitl [HR]; · iexact HR
    isplitl [HO]; · iexact HO
    isplitl [Hh]; · iexact Hh
    isplitl [Hs]; · iexact Hs
    unfold aPts bPts outPts
    isplitl [Ha]; · iexact Ha
    isplitl [Hb]; · iexact Hb
    iexact Ho
  unfold aPts bPts outPts
  rw [← final_eq]
  iintro ⟨HO, Hz, Hs, Ha, Hb, Ho⟩
  unfold bodyPost Φ₁
  isplitl [Hs Hz]
  · isplitl [Hs]; · iapply (whole_of_slots c); iexact Hs
    iexact Hz
  isplitl [HO]; · iapply (owes_end m ρ c); iexact HO
  isplitl [Ha]; · iapply (pts_stg c cc0_stg0_0 (va m ρ c)); iexact Ha
  isplitl [Hb]; · iapply (pts_stg c cc0_stg1_0 (vb m ρ c)); iexact Hb
  iapply (pts_stg c cc0_stg2_0 (final m ρ c)); iexact Ho

set_option maxRecDepth 65536 in
/-- The pipeline's obligation on the body, at its one point. -/
theorem body_obligation (c : Dev nD) : BodyObligation (dats (F := F) m ρ 0 c) (defs₀ (F := F)) 𝒱₀ 0 Set.univ := fun t => by
  rw [show t = t0_0 from fin_N0 t]
  rw [bigSep_W, bigSep_W]
  simp only [owns_stage]
  show bodyPre m ρ c ⊢ wpc c (cc0_body (F := F) aM (Memref.isWhole_whole _) bM (Memref.isWhole_whole _) oM (Memref.isWhole_whole _) cM (Memref.isWhole_whole _)
    cc0_scratch1 cc0_scratch2 cc0_scratch3 cc0_scoped0) (fun _ => bodyPost m ρ c)
  rw [body_eq]
  exact body_run m ρ c

theorem start_intro (c : Dev nD) :
    iprop(Pipeline.unscopedRestP Pipeline.Prefetch.none cfg0.spec c (fun b => m ((c : Thread nD τ).loc b)) ∗ levAts Lv lev
        ∗ Pipeline.launchCred O₀ c ∗ prngReg c (ρ c) ∗ G' X c)
      ⊢ |={Set.univ}=> iprop(start X c ∗ emp) := by
  have hl : (levAts Lv lev : sProp 𝕄) ⊢ levs (F := F) := by unfold levs; exact Entails.refl _
  have hpos : iprop((bigSep Finset.univ fun k : Key => atPos ER (cell c k) 0 ∅ 0) ∗ bigSep Finset.univ fun x : Dev nD × Key => reached ER (cell x.1 x.2) 0)
      ⊢ (bigSep Finset.univ fun k : Key => iprop(atPos ER (cell c k) 0 ∅ 0 ∗ reached ER (cell c k) 0) : sProp 𝕄) := by
    have h2 : (bigSep Finset.univ fun x : Dev nD × Key => (reached ER (cell x.1 x.2) 0 : sProp 𝕄)) ⊢ bigSep Finset.univ fun k : Key => reached ER (cell c k) 0 := by
      rw [bigSep_univ_prod]
      exact bigSep_elim (Finset.mem_univ c)
    rw [bigSep_sep']
    exact BIClass.sep_mono (Entails.refl _) h2
  unfold start G'
  iintro ⟨-, Hlev, Hcr, -, ⟨%K, #HK⟩, Hat, Htok, ⟨%J, HJ⟩, Hs⟩
  ihave Hlev := hl $$ Hlev
  imodintro
  isplitl
  · isplitl [HJ Hlev]
    · iexists K, J
      unfold recs cellRecs slotInvs
      icases HK with ⟨#H1, #H2⟩
      isplitr; · iexact H1
      isplitr; · iexact H2
      isplitl [HJ]; · iexact HJ
      iexact Hlev
    iapply (hand_intro c)
    isplitl [Hat]
    · iapply hpos
      isplitl [Hat]; · iexact Hat
      unfold cellRecs
      icases HK with ⟨-, #H2⟩
      iexact H2
    isplitl [Htok]; · iexact Htok
    isplitl [Hs] <;> iassumption
  · iempintro

theorem phi0_intro (c : Dev nD) :
    iprop(start (XP (prod m ρ)) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, Hz, HzB⟩
  isplitl [HzB]; · iexact HzB
  isplitl [Hz]; · iexact Hz
  iexact Hr

theorem waits (c : Dev nD) : (levAts Lv lev : sProp 𝕄) ⊢ Pipeline.cellsWaits cfgs (dats m ρ) 0 0 c :=
  Pipeline.cellsWaits_intro cfgs (dats m ρ) 0 0 c fun w s t => by
    have hl : (levAts Lv lev : sProp 𝕄) ⊢ levs (F := F) := by unfold levs; exact Entails.refl _
    rcases t with ⟨_ | _, ht⟩
    · exact hl.trans (mayWait_start c _)
    · rw [show (dats m ρ 0 c).owed ⟨_ + 1, ht⟩ = 0 from rfl, MayWait_zero]
      iintro -; iempintro

/-! ## The run -/

def finalA (c : Dev nD) (w : Fin cfg0.W) : Buf (Elt F) ((cfg0.win w).arr.view.loc (c : Thread nD τ)) := (dats m ρ 0 c).arrAt w cfg0.N

set_option maxRecDepth 65536 in
/-- On the 32 devices, for any float values, from any memory with zero counters: every weakly fair execution of @main
    ends, with each window's array at its final contents and every semaphore at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := fun c w => share_eq m ρ w c)
    (hdistinct := winFacts0.arr_inj)
    (O₀ := O₀) (howed₀ := fun _ => rfl) (howedN := fun _ => rfl)
    (L := Lv) (lv := lev) (hL := SiteBlocks.hL top) (hwaits := waits m ρ)
    (G := G (XP (prod m ρ))) (G' := G' (XP (prod m ρ))) (u₀ := u₀)
    (hu₀ := launch_elem _)
    (hglob := glob _)
    (hA := fun _ _ => rfl) (hpf := fun _ k => k.elim0)
    (X := start (XP (prod m ρ))) (Y := fun c => unscopedSems0 c) (Z := fun _ => iprop(emp))
    (hX := start_intro (XP (prod m ρ)) m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays end as they were; the result's array ends at the result. -/
theorem final_a (c : Dev nD) : finalA m ρ c (0 : Fin 3) = m ((c : Thread nD τ).loc main_arg0) := (dats (F := F) m ρ 0 c).arrAt_in (0 : Fin 3) rfl _
theorem final_b (c : Dev nD) : finalA m ρ c (1 : Fin 3) = m ((c : Thread nD τ).loc main_arg1) := (dats (F := F) m ρ 0 c).arrAt_in (1 : Fin 3) rfl _

end Run

end Cert.RingProof

end
-- ==== Proof.Value.lean ====
/-
  The value: over the extended reals, every device ends with the whole product of the reference.
-/
module

public import proofs.«01_k».proof.Proof.Launch
public import Idealize.ShloMosaic.Lib.Layout
public import Idealize.ShloMosaic.Lib.ValueIdx
public import Idealize.ShloMosaic.Lib.ValueLayout
public import Idealize.ShloMosaic.Lib.MatmulPlain
public import Idealize.ShloMosaic.Lib.StackMember
public import Idealize.ShloMosaic.Lib.Pointwise.Sums
public import Idealize.ShloMosaic.Lib.Pipeline.Value

@[expose] public section

noncomputable section

namespace Cert.RingProof

open Cert.KernelIdeal Cert.KernelIdeal.Gen
open Idealize.ShloMosaic hiding ix2 ix3 eq_ix2
open Idealize.ShloMosaic.TcCoe Idealize.SL.Sem Idealize.ShloMosaic.ValueIdx
open Idealize.ShloMosaic.Pipeline (Dat)

/-! ## Devices and rows -/

/-- The device `k` steps to the left of `c` on the ring. -/
def back (c : Dev nD) (k : ℕ) : Dev nD := ⟨(c.val + 31 * k) % 32, Nat.mod_lt _ (by decide)⟩

theorem back_zero (c : Dev nD) : back c 0 = c := Fin.ext (by have := c.isLt; show (_ : ℕ) = _; unfold nD at *; simp only [back]; omega)
theorem back_lft (c : Dev nD) (k : ℕ) : back (lft c) k = back c (k + 1) := Fin.ext (by simp only [back, lft]; omega)
theorem back_succ (c : Dev nD) (k : ℕ) : lft (back c k) = back c (k + 1) := Fin.ext (by simp only [back, lft]; omega)

/-- Row `r` of the 48 rows that belong to device `d`'s number. -/
def row (d : Dev nD) (r : Fin 48) : Fin 1536 := ⟨48 * d.val + r.val, by have := d.isLt; have := r.isLt; unfold nD at *; omega⟩

theorem off2_eq : ∀ (c : Dev nD) (r : Fin 31), k0_off2 c (BitVec.ofNat 32 r.val) = ![48 * (back c (r.val + 1)).val, 0] := by decide +kernel
theorem off3_eq : ∀ (c : Dev nD) (r : Fin 31), k0_off3 c (BitVec.ofNat 32 r.val) = ![48 * (back c r.val).val, 0] := by decide +kernel

/-- A sum along the ring, from any device, is the sum over all devices. -/
theorem sum_back {M : Type} [AddCommMonoid M] (c : Dev nD) (f : Dev nD → M) : ∑ k ∈ Finset.range 32, f (back c k) = ∑ d, f d := by
  rw [Finset.sum_range]
  refine Fintype.sum_bijective (fun k : Fin 32 => back c k.val) ?_ _ _ (fun _ => rfl)
  refine (Finite.injective_iff_bijective (α := Fin 32)).1 fun a b h => Fin.ext ?_
  have h' : (c.val + 31 * a.val) % 32 = (c.val + 31 * b.val) % 32 := congrArg Fin.val h
  omega

/-! ## Reading and writing 48 rows -/

section Rows
variable {F : FTy → Type} [FloatOps F]

theorem rowsAt_apply (off : Fin 2 → Nat) (inb : ∀ a, off a + S48x1536.size a ≤ S1536x1536.size a) (g : Out F) (d : Dev nD)
    (ho : off = ![48 * d.val, 0]) (r : Fin 48) (n : Fin 1536) : rowsAt off inb g (ix2 r n) = g (ix2 (row d r) n) := by
  subst ho
  show g _ = g _
  refine congrArg g (funext fun a => Fin.ext ?_)
  match a with
  | ⟨0, _⟩ => show 48 * d.val + 1 * r.val = 48 * d.val + r.val; omega
  | ⟨1, _⟩ => show 0 + 1 * n.val = n.val; omega

theorem setRows_eq (off : Fin 2 → Nat) (inb : ∀ a, off a + S48x1536.size a ≤ S1536x1536.size a) (g : Out F) (v : FVec F S48x1536 .f32) :
    setRows off inb g v = updateSlice g v off ⟨rfl, inb⟩ :=
  View.write_whole_slice_unit (Val := Elt F) cc0_stg2_0 off S48x1536.size inb g v

/-- Where the written value agrees with `T` the result does; elsewhere it is what was there. -/
theorem setRows_agree (off : Fin 2 → Nat) (inb : ∀ a, off a + S48x1536.size a ≤ S1536x1536.size a) (g : Out F) (v : FVec F S48x1536 .f32) (d : Dev nD)
    (ho : off = ![48 * d.val, 0]) (T : Out F) (hv : ∀ r n, v (ix2 r n) = T (ix2 (row d r) n)) (i n : Fin 1536)
    (hg : i.val / 48 ≠ d.val → g (ix2 i n) = T (ix2 i n)) : setRows off inb g v (ix2 i n) = T (ix2 i n) := by
  subst ho
  rw [setRows_eq]
  unfold updateSlice
  split
  · rename_i hin
    have h0 := hin 0
    have hl : 48 * d.val ≤ i.val ∧ i.val < 48 * d.val + 48 := h0
    have e : row d ⟨i.val - 48 * d.val, by omega⟩ = i := Fin.ext (by show 48 * d.val + (i.val - 48 * d.val) = i.val; omega)
    refine Eq.trans ?_ ((hv ⟨i.val - 48 * d.val, by omega⟩ n).trans (by rw [e]))
    refine congrArg v (funext fun a => Fin.ext ?_)
    match a with
    | ⟨0, _⟩ => rfl
    | ⟨1, _⟩ => show n.val - 0 = n.val; omega
  · rename_i hin
    refine hg fun h => hin fun a => ?_
    match a with
    | ⟨0, _⟩ => show 48 * d.val ≤ i.val ∧ i.val < 48 * d.val + 48; omega
    | ⟨1, _⟩ => show 0 ≤ n.val ∧ n.val < 0 + 1536; have := n.isLt; omega

end Rows

/-! ## The payloads, entry by entry -/

theorem pay2_apply (v : FVec Ideal S48x1536 .f32) (r : Fin 48) (n : Fin 1536) : k0_pay2 (F := Ideal) v (ix3 (0 : Fin 1) r n) = v (ix2 r n) := by
  unfold k0_pay2
  rw [shapeCast_ab_1ab_apply, shapeCast_self]; rfl

theorem pay4_apply (v : FVec Ideal S1x48x1536 .bf16) (x : FVec Ideal S48x1536 .f32) (r : Fin 48) (n : Fin 1536) :
    k0_pay4 (F := Ideal) v x (ix2 r n) = (v (ix3 (0 : Fin 1) r n) + x (ix2 r n) : EReal) := by
  unfold k0_pay4
  rw [shapeCast_self]
  show (shapeCast S48x1536 v _ (ix2 r n) + x (ix2 r n) : EReal) = _
  rw [shapeCast_1ab_ab_apply]

theorem pay3_apply (v : FVec Ideal S1x48x1536 .bf16) (x : FVec Ideal S48x1536 .f32) (r : Fin 48) (n : Fin 1536) :
    k0_pay3 (F := Ideal) v x (ix3 (0 : Fin 1) r n) = (v (ix3 (0 : Fin 1) r n) + x (ix2 r n) : EReal) := by
  refine Eq.trans ?_ (pay4_apply v x r n)
  unfold k0_pay3 k0_pay4
  rw [shapeCast_ab_1ab_apply]; rfl

theorem pay43_apply (v : FVec Ideal S1x48x1536 .bf16) (r : Fin 48) (n : Fin 1536) : k0_pay43 (F := Ideal) v (ix2 r n) = v (ix3 (0 : Fin 1) r n) := by
  unfold k0_pay43
  show shapeCast S48x1536 v _ (ix2 r n) = _
  rw [shapeCast_1ab_ab_apply]

/-! ## The ring -/

section Ring
variable (P : Dev nD → Out Ideal)

/-- The sum of the 32 products. -/
def total : Out Ideal := fun i => (∑ d : Dev nD, P d i : EReal)

/-- What device `c` forwards at hop `h` of the first phase is the sum of `h + 1` devices' rows, its own and those of the
    devices to its left. -/
theorem chunk_sum (h : ℕ) (hh : h ≤ 31) (c : Dev nD) (r : Fin 48) (n : Fin 1536) :
    chunkAt P h c (ix3 (0 : Fin 1) r n) = (∑ k ∈ Finset.range (h + 1), P (back c k) (ix2 (row (back c h) r) n) : EReal) := by
  induction h generalizing c with
  | zero =>
    rw [chunkAt, pay2_apply, rowsAt_apply _ _ _ _ (k0_off1_eq c), Finset.sum_range_one, back_zero]
  | succ h ih =>
    have hr : (r31 h).val = h := Nat.mod_eq_of_lt (by omega)
    rw [chunkAt, if_pos (by omega), pay3_apply, ih (by omega), rowsRed, rowsAt_apply _ _ _ _ (off2_eq c _), hr, Finset.sum_range_succ' _ (h + 1), back_zero]
    simp only [back_lft]

/-- From hop 31 on a chunk is finished: it holds the rows of the whole sum. -/
theorem chunk_total (t : ℕ) (c : Dev nD) (r : Fin 48) (n : Fin 1536) :
    chunkAt P (31 + t) c (ix3 (0 : Fin 1) r n) = total P (ix2 (row (back c (31 + t)) r) n) := by
  induction t generalizing c with
  | zero => rw [Nat.add_zero, chunk_sum P 31 le_rfl]; exact sum_back c fun d => P d (ix2 (row (back c 31) r) n)
  | succ t ih =>
    rw [show 31 + (t + 1) = (31 + t) + 1 from rfl, chunkAt, if_neg (by omega), ih, back_lft]

/-- The rows written so far hold the whole sum: after the last hop of the first phase and `t` of the second, those of
    `t + 1` device numbers. -/
theorem out_total (c : Dev nD) (t : ℕ) (ht : t ≤ 31) (i n : Fin 1536) (hi : ∃ s ≤ t, i.val / 48 = (back c (31 + s)).val) :
    outAt P c (31 + t) (ix2 i n) = total P (ix2 i n) := by
  induction t with
  | zero =>
    obtain ⟨s, hs, e⟩ := hi
    obtain rfl : s = 0 := by omega
    rw [show 31 + 0 = 30 + 1 from rfl, outAt, if_neg (by omega), if_pos rfl]
    refine setRows_agree _ _ _ _ _ (off2_eq c (r31 30)) (total P) (fun r n => ?_) i n (fun h => absurd e h)
    have e31 : chunkAt P 31 c (ix3 (0 : Fin 1) r n) = total P (ix2 (row (back c 31) r) n) := chunk_total P 0 c r n
    rw [outAt_early P c 30 le_rfl, pay4_apply, ← pay3_apply]
    exact e31
  | succ t ih =>
    have hr : (r31 t).val = t := Nat.mod_eq_of_lt (by omega)
    rw [show 31 + (t + 1) = (31 + t) + 1 from rfl, outAt, if_neg (by omega), if_neg (by omega), Nat.add_sub_cancel_left]
    have eb : (back c t).val = (back c (31 + (t + 1))).val := by simp only [back]; omega
    refine setRows_agree _ _ _ _ (back c t) ((off3_eq c (r31 t)).trans (by rw [hr])) (total P) (fun r n => ?_) i n (fun h => ih (by omega) ?_)
    · rw [pay43_apply, XP, chunk_total, back_lft]
      rw [show back c t = back c (31 + t + 1) from Fin.ext eb]
    · obtain ⟨s, hs, e⟩ := hi
      refine ⟨s, ?_, e⟩
      rcases Nat.lt_or_ge t s with hlt | hge
      · obtain rfl : s = t + 1 := by omega
        exact absurd (e.trans eb.symm) h
      · exact hge

/-- After the last hop every entry of the result is the whole sum's. -/
theorem out_last (c : Dev nD) : outAt P c 62 = total P := by
  funext j
  rw [eq_ix2 j]
  have hj : (j 0).val < 1536 := (j 0).isLt
  have hc : c.val < 32 := c.isLt
  refine out_total P c 31 le_rfl (j 0) (j 1) ⟨(c.val + 1 + 31 * ((j 0).val / 48)) % 32, by omega, ?_⟩
  show (j 0).val / 48 = (c.val + 31 * (31 + (c.val + 1 + 31 * ((j 0).val / 48)) % 32)) % 32
  omega

end Ring

/-! ## The products -/

/-- An entry of a device's product. -/
theorem pay1_apply (a : FVec Ideal S1536x768 .bf16) (b : FVec Ideal S768x1536 .bf16) (i j : Fin 1536) :
    k0_pay1 (F := Ideal) a b (ix2 i j) = (∑ k : Fin 768, a (ix2 i k) * b (ix2 k j) : EReal) := by
  unfold k0_pay1
  rw [shapeCast_self, shapeCast_self]
  refine (Ideal.matmul_plain_apply none a b _ i j).trans ?_
  rw [show (constant S1536x1536 .f32 0x00000000#32 : FVec Ideal S1536x1536 .f32) (ix2 i j) = (0 : EReal) from Ideal.ofBits_zero_f32, zero_add]

/-- The 32 devices' products of their blocks add up to the product of the whole arrays. -/
theorem total_blocks (A : FVec Ideal ⟨2, ![1536, 24576]⟩ .bf16) (B : FVec Ideal ⟨2, ![24576, 1536]⟩ .bf16)
    (hA : Layout.Tiles ⟨2, ![1536, 768]⟩ ⟨2, ![1536, 24576]⟩ 1 32) (hB : Layout.Tiles ⟨2, ![768, 1536]⟩ ⟨2, ![24576, 1536]⟩ 0 32) (i j : Fin 1536) :
    total (fun c => k0_pay1 (F := Ideal) (Layout.block ⟨2, ![1536, 768]⟩ ⟨2, ![1536, 24576]⟩ 1 32 c A hA) (Layout.block ⟨2, ![768, 1536]⟩ ⟨2, ![24576, 1536]⟩ 0 32 c B hB)) (ix2 i j)
      = (∑ k : Fin 24576, A (ix2 i k) * B (ix2 k j) : EReal) := by
  rw [Fin.sum_univ_tiles 32 768 rfl]
  refine Finset.sum_congr rfl fun c _ => (pay1_apply _ _ i j).trans (Finset.sum_congr rfl fun k _ => ?_)
  rw [Layout.block_apply, Layout.block_apply]
  congr 1
  · refine congrArg A (funext fun a => Fin.ext ?_)
    match a with
    | ⟨0, _⟩ => rfl
    | ⟨1, _⟩ => rfl
  · refine congrArg B (funext fun a => Fin.ext ?_)
    match a with
    | ⟨0, _⟩ => rfl
    | ⟨1, _⟩ => rfl

/-! ## The result on a device -/

section Run
variable (m : (ℓ : Loc nD τ sig) → Buf (Elt Ideal) ℓ) (ρ : Dev nD → PrngReg)

/-- The staged blocks are the whole argument buffers. -/
theorem va_eq (c : Dev nD) : va m ρ c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
theorem vb_eq (c : Dev nD) : vb m ρ c = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _

/-- The result's array ends at what stood in the output window. -/
theorem final_out (c : Dev nD) : finalA m ρ c (2 : Fin 3) = final m ρ c := by
  have hz : (fun a => (win0_2.index (0 : Fin 1)) a * main_v1.ty.shape.size a) = fun _ => 0 := funext fun a => by fin_cases a <;> decide
  have hr := fun f => Memref.read_access_unit_zero (Elt Ideal) main_v1 hz (fun a => by fin_cases a <;> decide) f
  refine (hr _).symm.trans ?_
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _

/-- Every device's result is the sum of the 32 products of the argument buffers. -/
theorem result_eq (c : Dev nD) : finalA m ρ c (2 : Fin 3)
    = total fun d => k0_pay1 (F := Ideal) (m ((d : Thread nD τ).loc main_arg0)) (m ((d : Thread nD τ).loc main_arg1)) := by
  rw [final_out, final_eq, out_last]
  refine congrArg total (funext fun d => ?_)
  unfold prod
  rw [va_eq, vb_eq]

end Run

end Cert.RingProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

open Cert.RingProof in
/-- The kernel's run at any float values: the arguments are as they were, every semaphore reads zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c (0 : Fin 3)).trans (final_a m ρ c), (h.1 c (1 : Fin 3)).trans (final_b m ρ c)⟩, h.2⟩) (run_main m ρ)

attribute [local instance] Cert.Kernel.Gen.facts Cert.KernelIdeal.Gen.facts

set_option maxRecDepth 65536 in
/-- The kernel's body table is the idealized kernel's: no operation was rewritten. -/
theorem bodies_eq {F : FTy → Type} [FloatOps F] : Cert.Kernel.defs₀ (F := F) = Cert.KernelIdeal.defs₀ (F := F) :=
  congrArg Defs.onTc (funext fun l => funext fun x => by
    have hl : l = 0 := Subsingleton.elim (α := Fin 1) _ _
    subst hl
    rfl)
theorem defs_eq {F : FTy → Type} [FloatOps F] : Cert.Kernel.defs (F := F) = Cert.KernelIdeal.defs (F := F) :=
  congrArg (Pipeline.defs Cert.KernelIdeal.pcfgs) bodies_eq

/-- The kernel at its own float values: it ends with its arguments unchanged and every semaphore at zero. -/
theorem frame_kernel : Cert.quiescent_Kernel (hKernel := Cert.Kernel.Gen.facts) := fun m ρ _ => by
  rw [defs_eq]
  exact frame_any (F := Bits) m ρ
/-- The same over the extended reals. -/
theorem frame_ideal : Cert.quiescent_KernelIdeal (hKernelIdeal := Cert.KernelIdeal.Gen.facts) := fun m ρ _ => frame_any (F := Ideal) m ρ
/-- The reference ends with its arguments unchanged; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

open Cert.RingProof in
/-- Over the extended reals, from memories that agree (each device holds its columns of `A` and its rows of `B`), every
    device's result ends as the reference's product of the whole arrays; the arguments of both are as they were. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, (θ_run Cert.KernelIdeal.defs _ _).mono (fun _ h c => ⟨(h.1 c (2 : Fin 3)).trans ?_, (h.1 c (0 : Fin 3)).trans (final_a m g c),
      (h.1 c (1 : Fin 3)).trans (final_b m g c)⟩) (run_main (F := Ideal) m g),
    (θ_run Cert.ReferenceIdeal.defs _ _).mono (fun _ h => h 0) (Cert.ReferenceIdeal.Value.run (F := Ideal) m' g')⟩
  rw [result_eq]
  funext j
  rw [ValueIdx.eq_ix2 (n0 := 1536) (n1 := 1536) j]
  simp only [fun d => (hagree d).1, fun d => (hagree d).2]
  refine (total_blocks _ _ _ _ (j 0) (j 1)).trans ?_
  exact (StackMember.dotGeneral_plain_apply (φ₁ := .f32) (φ₂ := .f32) none _ _ (j 0) (j 1)).symm

theorem claim : Cert.Claim := ⟨Cert.Kernel.Gen.facts, Cert.KernelIdeal.Gen.facts, Cert.ReferenceIdeal.Gen.facts,
  frame_kernel, frame_ideal, frame_reference, trivial, algebraic⟩

end Cert.Proof

end
